-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def preserves_Kernel_KernelIdeal : Prop :=
  IdealRules.bf16_pair.Statement Cert.KernelIdeal.S128x128 Cert.KernelIdeal.S64x128
  ∧ IdealRules.named_const.Statement Cert.KernelIdeal.κ "inv_max" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Norm_NormIdeal : Prop :=
  IdealRules.bf16_pair.Statement Cert.NormIdeal.S1024x128 Cert.NormIdeal.S512x128

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ preserves_Kernel_KernelIdeal
    ∧ algebraic_KernelIdeal_ReferenceIdeal (hKernelIdeal := hKernelIdeal) (hReferenceIdeal := hReferenceIdeal)
    ∧ preserves_Norm_NormIdeal
-- ==== Kernel.lean ====
abbrev S1x1 : Shape := ⟨2, ![1, 1]⟩
abbrev S491520x128 : Shape := ⟨2, ![491520, 128]⟩
abbrev S16x384 : Shape := ⟨2, ![16, 384]⟩
abbrev S256x128 : Shape := ⟨2, ![256, 128]⟩
abbrev S245760x128 : Shape := ⟨2, ![245760, 128]⟩
abbrev S7680x128 : Shape := ⟨2, ![7680, 128]⟩
abbrev S4096x128 : Shape := ⟨2, ![4096, 128]⟩
abbrev S2048x128 : Shape := ⟨2, ![2048, 128]⟩
abbrev S64x128 : Shape := ⟨2, ![64, 128]⟩
abbrev S4x128x128 : Shape := ⟨3, ![4, 128, 128]⟩
abbrev S96x128 : Shape := ⟨2, ![96, 128]⟩
abbrev S128x128 : Shape := ⟨2, ![128, 128]⟩
abbrev S1x128x128 : Shape := ⟨3, ![1, 128, 128]⟩
abbrev S8x8x128 : Shape := ⟨3, ![8, 8, 128]⟩
abbrev S8x128 : Shape := ⟨2, ![8, 128]⟩
abbrev S8x128x1 : Shape := ⟨3, ![8, 128, 1]⟩
abbrev S16x128 : Shape := ⟨2, ![16, 128]⟩
abbrev S128x16 : Shape := ⟨2, ![128, 16]⟩
abbrev S128x384 : Shape := ⟨2, ![128, 384]⟩
abbrev S64x256 : Shape := ⟨2, ![64, 256]⟩

abbrev nBuf : Space → Nat
  | .hbm => 9
  | .vmem => 20
  | .smem => 1
  | _ => 0

abbrev bufTy : (tb : Table) → Fin (tcTables nBuf tb) → BufTy
  | .hbm, ⟨0, _⟩ => ⟨S1x1, .f32⟩
  | .hbm, ⟨1, _⟩ => ⟨S491520x128, .bf16⟩
  | .hbm, ⟨2, _⟩ => ⟨S491520x128, .f32⟩
  | .hbm, ⟨3, _⟩ => ⟨S16x384, .bf16⟩
  | .hbm, ⟨4, _⟩ => ⟨S256x128, .bf16⟩
  | .hbm, ⟨5, _⟩ => ⟨S491520x128, .f32⟩
  | .hbm, ⟨6, _⟩ => ⟨S245760x128, .i8⟩
  | .hbm, ⟨7, _⟩ => ⟨S7680x128, .bf16⟩
  | .hbm, ⟨8, _⟩ => ⟨S7680x128, .i8⟩
  | .local _ .vmem, ⟨0, _⟩ => ⟨S16x384, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S2048x128, .i8⟩
  | .local _ .vmem, ⟨9, _⟩ => ⟨S2048x128, .i8⟩
  | .local _ .vmem, ⟨10, _⟩ => ⟨S64x128, .bf16⟩
  | .local _ .vmem, ⟨11, _⟩ => ⟨S64x128, .bf16⟩
  | .local _ .vmem, ⟨12, _⟩ => ⟨S64x128, .i8⟩
  | .local _ .vmem, ⟨13, _⟩ => ⟨S64x128, .i8⟩
  | .local _ .vmem, ⟨14, _⟩ => ⟨S4x128x128, .f32⟩
  | .local _ .vmem, ⟨15, _⟩ => ⟨S96x128, .f32⟩
  | .local _ .vmem, ⟨16, _⟩ => ⟨S96x128, .f32⟩
  | .local _ .vmem, ⟨17, _⟩ => ⟨S96x128, .f32⟩
  | .local _ .vmem, ⟨18, _⟩ => ⟨S64x128, .i32⟩
  | .local _ .vmem, ⟨19, _⟩ => ⟨S64x128, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![120], ![false]⟩

@[reducible] def k0_t1_loop : Scf.Loop 32 :=
  let c0_i32_6 : BitVec 32 := 0#32
  let c8_i32 : BitVec 32 := 8#32
  let v6 : BitVec 32 := Scalar.addi c0_i32_6 c8_i32
  let c1_i32 : BitVec 32 := 1#32
  ⟨c0_i32_6, v6, c1_i32⟩
def k0_mult1 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  v17
def k0_mult2 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c0_i32_18 : BitVec 32 := 0#32
  let v19 : BitVec 32 := Scalar.addi v18 c0_i32_18
  v19
def k0_off1 (k0_t1 : Fin k0_t1_loop.trips) (c0_i32_18 : BitVec 32) : Fin 2 → Nat :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let v19 : BitVec 32 := Scalar.addi v18 c0_i32_18
  let v20 : BitVec 32 := v19
  let v21 : Index := Scalar.indexCast v20
  let c0_19 : Index := 0#32
  ![v21.toNat, 0]
def k0_off2 (k0_t1 : Fin k0_t1_loop.trips) (c0_i32_18 : BitVec 32) : Fin 2 → Nat :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let v19 : BitVec 32 := Scalar.addi v18 c0_i32_18
  let v32 : Index := Scalar.indexCast v19
  let c0_20 : Index := 0#32
  ![v32.toNat, 0]
def k0_off3 (k0_t1 : Fin k0_t1_loop.trips) (c0_i32_18 : BitVec 32) : Fin 2 → Nat :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let v19 : BitVec 32 := Scalar.addi v18 c0_i32_18
  let c1_i32_21 : BitVec 32 := 1#32
  let v37 : BitVec 32 := Scalar.addi v19 c1_i32_21
  let v38 : Index := Scalar.indexCast v37
  let c0_22 : Index := 0#32
  ![v38.toNat, 0]
def k0_mult3 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c128_i32 : BitVec 32 := 128#32
  let v66 : BitVec 32 := Scalar.addi v18 c128_i32
  v66
def k0_mult4 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c256_i32 : BitVec 32 := 256#32
  let v113 : BitVec 32 := Scalar.addi v18 c256_i32
  v113
def k0_mult5 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c384_i32 : BitVec 32 := 384#32
  let v160 : BitVec 32 := Scalar.addi v18 c384_i32
  v160
def k0_mult6 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c8_i32_149 : BitVec 32 := 8#32
  let v328 : BitVec 32 := Scalar.muli v16 c8_i32_149
  v328
def k0_off4 (k0_t1 : Fin k0_t1_loop.trips) : Fin 2 → Nat :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c8_i32_149 : BitVec 32 := 8#32
  let v328 : BitVec 32 := Scalar.muli v16 c8_i32_149
  let v329 : BitVec 32 := v328
  let v330 : Index := Scalar.indexCast v329
  let c0_150 : Index := 0#32
  ![v330.toNat, 0]
def k0_mult7 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c8_i32_161 : BitVec 32 := 8#32
  let v363 : BitVec 32 := Scalar.muli v16 c8_i32_161
  v363
def k0_mult8 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c0_i32_163 : BitVec 32 := 0#32
  let v369 : BitVec 32 := Scalar.addi v18 c0_i32_163
  let c0_i32_180 : BitVec 32 := 0#32
  let v408 : BitVec 1 := Scalar.cmpi .sgt v369 c0_i32_180
  let v409 : BitVec 32 := Scalar.extui v408
  let c0_i32_181 : BitVec 32 := 0#32
  let v410 : BitVec 1 := Scalar.cmpi .slt v369 c0_i32_181
  let v411 : BitVec 32 := Scalar.extui v410
  let v412 : BitVec 32 := Scalar.subi v409 v411
  let c2_i32_179 : BitVec 32 := 2#32
  let c0_i32_182 : BitVec 32 := 0#32
  let v413 : BitVec 1 := Scalar.cmpi .sgt c2_i32_179 c0_i32_182
  let v414 : BitVec 32 := Scalar.extui v413
  let c0_i32_183 : BitVec 32 := 0#32
  let v415 : BitVec 1 := Scalar.cmpi .slt c2_i32_179 c0_i32_183
  let v416 : BitVec 32 := Scalar.extui v415
  let v417 : BitVec 32 := Scalar.subi v414 v416
  let v418 : BitVec 1 := Scalar.cmpi .ne v412 v417
  let v419 : BitVec 32 := Scalar.remsi v369 c2_i32_179
  let c0_i32_184 : BitVec 32 := 0#32
  let v420 : BitVec 1 := Scalar.cmpi .ne v419 c0_i32_184
  let v421 : BitVec 1 := Scalar.andi v418 v420
  let v407 : BitVec 32 := Scalar.divsi v369 c2_i32_179
  let c1_i32_185 : BitVec 32 := 1#32
  let v422 : BitVec 32 := Scalar.subi v407 c1_i32_185
  let v423 : BitVec 32 := Scalar.select v421 v422 v407
  v423
def k0_off5 (k0_t1 : Fin k0_t1_loop.trips) (c0_i32_163 : BitVec 32) : Fin 2 → Nat :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let v369 : BitVec 32 := Scalar.addi v18 c0_i32_163
  let c0_i32_180 : BitVec 32 := 0#32
  let v408 : BitVec 1 := Scalar.cmpi .sgt v369 c0_i32_180
  let v409 : BitVec 32 := Scalar.extui v408
  let c0_i32_181 : BitVec 32 := 0#32
  let v410 : BitVec 1 := Scalar.cmpi .slt v369 c0_i32_181
  let v411 : BitVec 32 := Scalar.extui v410
  let v412 : BitVec 32 := Scalar.subi v409 v411
  let c2_i32_179 : BitVec 32 := 2#32
  let c0_i32_182 : BitVec 32 := 0#32
  let v413 : BitVec 1 := Scalar.cmpi .sgt c2_i32_179 c0_i32_182
  let v414 : BitVec 32 := Scalar.extui v413
  let c0_i32_183 : BitVec 32 := 0#32
  let v415 : BitVec 1 := Scalar.cmpi .slt c2_i32_179 c0_i32_183
  let v416 : BitVec 32 := Scalar.extui v415
  let v417 : BitVec 32 := Scalar.subi v414 v416
  let v418 : BitVec 1 := Scalar.cmpi .ne v412 v417
  let v419 : BitVec 32 := Scalar.remsi v369 c2_i32_179
  let c0_i32_184 : BitVec 32 := 0#32
  let v420 : BitVec 1 := Scalar.cmpi .ne v419 c0_i32_184
  let v421 : BitVec 1 := Scalar.andi v418 v420
  let v407 : BitVec 32 := Scalar.divsi v369 c2_i32_179
  let c1_i32_185 : BitVec 32 := 1#32
  let v422 : BitVec 32 := Scalar.subi v407 c1_i32_185
  let v423 : BitVec 32 := Scalar.select v421 v422 v407
  let v424 : BitVec 32 := v423
  let v425 : Index := Scalar.indexCast v424
  let c0_186 : Index := 0#32
  ![v425.toNat, 0]
def k0_mult9 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c128_i32_187 : BitVec 32 := 128#32
  let v427 : BitVec 32 := Scalar.addi v18 c128_i32_187
  let c0_i32_204 : BitVec 32 := 0#32
  let v466 : BitVec 1 := Scalar.cmpi .sgt v427 c0_i32_204
  let v467 : BitVec 32 := Scalar.extui v466
  let c0_i32_205 : BitVec 32 := 0#32
  let v468 : BitVec 1 := Scalar.cmpi .slt v427 c0_i32_205
  let v469 : BitVec 32 := Scalar.extui v468
  let v470 : BitVec 32 := Scalar.subi v467 v469
  let c2_i32_203 : BitVec 32 := 2#32
  let c0_i32_206 : BitVec 32 := 0#32
  let v471 : BitVec 1 := Scalar.cmpi .sgt c2_i32_203 c0_i32_206
  let v472 : BitVec 32 := Scalar.extui v471
  let c0_i32_207 : BitVec 32 := 0#32
  let v473 : BitVec 1 := Scalar.cmpi .slt c2_i32_203 c0_i32_207
  let v474 : BitVec 32 := Scalar.extui v473
  let v475 : BitVec 32 := Scalar.subi v472 v474
  let v476 : BitVec 1 := Scalar.cmpi .ne v470 v475
  let v477 : BitVec 32 := Scalar.remsi v427 c2_i32_203
  let c0_i32_208 : BitVec 32 := 0#32
  let v478 : BitVec 1 := Scalar.cmpi .ne v477 c0_i32_208
  let v479 : BitVec 1 := Scalar.andi v476 v478
  let v465 : BitVec 32 := Scalar.divsi v427 c2_i32_203
  let c1_i32_209 : BitVec 32 := 1#32
  let v480 : BitVec 32 := Scalar.subi v465 c1_i32_209
  let v481 : BitVec 32 := Scalar.select v479 v480 v465
  v481
def k0_mult10 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c256_i32_211 : BitVec 32 := 256#32
  let v485 : BitVec 32 := Scalar.addi v18 c256_i32_211
  let c0_i32_228 : BitVec 32 := 0#32
  let v524 : BitVec 1 := Scalar.cmpi .sgt v485 c0_i32_228
  let v525 : BitVec 32 := Scalar.extui v524
  let c0_i32_229 : BitVec 32 := 0#32
  let v526 : BitVec 1 := Scalar.cmpi .slt v485 c0_i32_229
  let v527 : BitVec 32 := Scalar.extui v526
  let v528 : BitVec 32 := Scalar.subi v525 v527
  let c2_i32_227 : BitVec 32 := 2#32
  let c0_i32_230 : BitVec 32 := 0#32
  let v529 : BitVec 1 := Scalar.cmpi .sgt c2_i32_227 c0_i32_230
  let v530 : BitVec 32 := Scalar.extui v529
  let c0_i32_231 : BitVec 32 := 0#32
  let v531 : BitVec 1 := Scalar.cmpi .slt c2_i32_227 c0_i32_231
  let v532 : BitVec 32 := Scalar.extui v531
  let v533 : BitVec 32 := Scalar.subi v530 v532
  let v534 : BitVec 1 := Scalar.cmpi .ne v528 v533
  let v535 : BitVec 32 := Scalar.remsi v485 c2_i32_227
  let c0_i32_232 : BitVec 32 := 0#32
  let v536 : BitVec 1 := Scalar.cmpi .ne v535 c0_i32_232
  let v537 : BitVec 1 := Scalar.andi v534 v536
  let v523 : BitVec 32 := Scalar.divsi v485 c2_i32_227
  let c1_i32_233 : BitVec 32 := 1#32
  let v538 : BitVec 32 := Scalar.subi v523 c1_i32_233
  let v539 : BitVec 32 := Scalar.select v537 v538 v523
  v539
def k0_mult11 (k0_t1 : Fin k0_t1_loop.trips) : BitVec 32 :=
  let c0_i32_17 : BitVec 32 := 0#32
  let c0_i32_6 : BitVec 32 := 0#32
  let c1_i32 : BitVec 32 := 1#32
  let arg16 : BitVec 32 := Scf.iv c0_i32_6 c1_i32 k0_t1
  let c1_i32_16 : BitVec 32 := 1#32
  let v15 : BitVec 32 := Scalar.muli arg16 c1_i32_16
  let v16 : BitVec 32 := Scalar.addi c0_i32_17 v15
  let c512_i32 : BitVec 32 := 512#32
  let v17 : BitVec 32 := Scalar.muli v16 c512_i32
  let v18 : BitVec 32 := v17
  let c384_i32_235 : BitVec 32 := 384#32
  let v543 : BitVec 32 := Scalar.addi v18 c384_i32_235
  let c0_i32_252 : BitVec 32 := 0#32
  let v582 : BitVec 1 := Scalar.cmpi .sgt v543 c0_i32_252
  let v583 : BitVec 32 := Scalar.extui v582
  let c0_i32_253 : BitVec 32 := 0#32
  let v584 : BitVec 1 := Scalar.cmpi .slt v543 c0_i32_253
  let v585 : BitVec 32 := Scalar.extui v584
  let v586 : BitVec 32 := Scalar.subi v583 v585
  let c2_i32_251 : BitVec 32 := 2#32
  let c0_i32_254 : BitVec 32 := 0#32
  let v587 : BitVec 1 := Scalar.cmpi .sgt c2_i32_251 c0_i32_254
  let v588 : BitVec 32 := Scalar.extui v587
  let c0_i32_255 : BitVec 32 := 0#32
  let v589 : BitVec 1 := Scalar.cmpi .slt c2_i32_251 c0_i32_255
  let v590 : BitVec 32 := Scalar.extui v589
  let v591 : BitVec 32 := Scalar.subi v588 v590
  let v592 : BitVec 1 := Scalar.cmpi .ne v586 v591
  let v593 : BitVec 32 := Scalar.remsi v543 c2_i32_251
  let c0_i32_256 : BitVec 32 := 0#32
  let v594 : BitVec 1 := Scalar.cmpi .ne v593 c0_i32_256
  let v595 : BitVec 1 := Scalar.andi v592 v594
  let v581 : BitVec 32 := Scalar.divsi v543 c2_i32_251
  let c1_i32_257 : BitVec 32 := 1#32
  let v596 : BitVec 32 := Scalar.subi v581 c1_i32_257
  let v597 : BitVec 32 := Scalar.select v595 v596 v581
  v597
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_max" => some ⊤
  | _ => none
-- ==== ReferenceIdeal.lean ====
abbrev S1x1 : Shape := ⟨2, ![1, 1]⟩
abbrev S491520x128 : Shape := ⟨2, ![491520, 128]⟩
abbrev S_ : Shape := ⟨0, ![]⟩
abbrev S983040x64 : Shape := ⟨2, ![983040, 64]⟩
abbrev S983040 : Shape := ⟨1, ![983040]⟩
abbrev S983040x1 : Shape := ⟨2, ![983040, 1]⟩
abbrev S983040x32 : Shape := ⟨2, ![983040, 32]⟩
abbrev S245760x128 : Shape := ⟨2, ![245760, 128]⟩
abbrev S7680x128 : Shape := ⟨2, ![7680, 128]⟩

abbrev nBuf : Space → Nat
  | .hbm => 77
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S491520x128, .bf16⟩
  | .hbm, ⟨2, _⟩ => ⟨S491520x128, .f32⟩
  | .hbm, ⟨3, _⟩ => ⟨S_, .f32⟩
  | .hbm, ⟨4, _⟩ => ⟨S491520x128, .f32⟩
  | .hbm, ⟨5, _⟩ => ⟨S983040x64, .f32⟩
  | .hbm, ⟨6, _⟩ => ⟨S983040x64, .f32⟩
  | .hbm, ⟨7, _⟩ => ⟨S983040x64, .f32⟩
  | .hbm, ⟨8, _⟩ => ⟨S983040x64, .f32⟩
  | .hbm, ⟨9, _⟩ => ⟨S983040x64, .f32⟩
  | .hbm, ⟨10, _⟩ => ⟨S_, .f32⟩
  | .hbm, ⟨11, _⟩ => ⟨S983040, .f32⟩
  | .hbm, ⟨12, _⟩ => ⟨S_, .f32⟩
  | .hbm, ⟨13, _⟩ => ⟨S983040, .f32⟩
  | .hbm, ⟨14, _⟩ => ⟨S983040, .i1⟩
  | .hbm, ⟨15, _⟩ => ⟨S983040, .f32⟩
  | .hbm, ⟨16, _⟩ => ⟨S_, .f32⟩
  | .hbm, ⟨17, _⟩ => ⟨S983040, .f32⟩
  | .hbm, ⟨18, _⟩ => ⟨S983040, .f32⟩
  | .hbm, ⟨19, _⟩ => ⟨S_, .f32⟩
  | .hbm, ⟨20, _⟩ => ⟨S983040, .f32⟩
  | .hbm, ⟨21, _⟩ => ⟨S983040, .f32⟩
  | .hbm, ⟨22, _⟩ => ⟨S_, .f32⟩
  | .hbm, ⟨23, _⟩ => ⟨S_, .f32⟩
  | .hbm, ⟨24, _⟩ => ⟨S983040, .f32⟩
  | .hbm, ⟨25, _⟩ => ⟨S983040, .f32⟩
  | .hbm, ⟨26, _⟩ => ⟨S983040, .bf16⟩
  | .hbm, ⟨27, _⟩ => ⟨S983040, .f32⟩
  | .hbm, ⟨28, _⟩ => ⟨S983040, .f32⟩
  | .hbm, ⟨29, _⟩ => ⟨S983040, .f32⟩
  | .hbm, ⟨30, _⟩ => ⟨S983040, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S983040, .f32⟩
  | .hbm, ⟨35, _⟩ => ⟨S983040, .f32⟩
  | .hbm, ⟨36, _⟩ => ⟨S_, .f32⟩
  | .hbm, ⟨37, _⟩ => ⟨S983040, .f32⟩
  | .hbm, ⟨38, _⟩ => ⟨S983040, .f32⟩
  | .hbm, ⟨39, _⟩ => ⟨S983040x1, .f32⟩
  | .hbm, ⟨40, _⟩ => ⟨S983040x64, .f32⟩
  | .hbm, ⟨41, _⟩ => ⟨S983040x64, .f32⟩
  | .hbm, ⟨42, _⟩ => ⟨S983040x64, .f32⟩
  | .hbm, ⟨43, _⟩ => ⟨S983040x1, .f32⟩
  | .hbm, ⟨44, _⟩ => ⟨S983040x64, .f32⟩
  | .hbm, ⟨45, _⟩ => ⟨S983040x64, .f32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S983040x64, .f32⟩
  | .hbm, ⟨50, _⟩ => ⟨S983040x64, .f32⟩
  | .hbm, ⟨51, _⟩ => ⟨S_, .f32⟩
  | .hbm, ⟨52, _⟩ => ⟨S983040x64, .f32⟩
  | .hbm, ⟨53, _⟩ => ⟨S983040x64, .f32⟩
  | .hbm, ⟨54, _⟩ => ⟨S983040x64, .i32⟩
  | .hbm, ⟨55, _⟩ => ⟨S983040, .i32⟩
  | .hbm, ⟨56, _⟩ => ⟨S983040x32, .i32⟩
  | .hbm, ⟨57, _⟩ => ⟨S983040x32, .i32⟩
  | .hbm, ⟨58, _⟩ => ⟨S_, .i32⟩
  | .hbm, ⟨59, _⟩ => ⟨S983040x32, .i32⟩
  | .hbm, ⟨60, _⟩ => ⟨S983040x32, .i32⟩
  | .hbm, ⟨61, _⟩ => ⟨S983040x32, .i32⟩
  | .hbm, ⟨62, _⟩ => ⟨S983040x32, .i8⟩
  | .hbm, ⟨63, _⟩ => ⟨S983040x64, .f32⟩
  | .hbm, ⟨64, _⟩ => ⟨S983040, .f32⟩
  | .hbm, ⟨65, _⟩ => ⟨S983040x1, .f32⟩
  | .hbm, ⟨66, _⟩ => ⟨S983040x64, .f32⟩
  | .hbm, ⟨67, _⟩ => ⟨S983040x64, .f32⟩
  | .hbm, ⟨68, _⟩ => ⟨S983040x1, .f32⟩
  | .hbm, ⟨69, _⟩ => ⟨S983040x64, .f32⟩
  | .hbm, ⟨70, _⟩ => ⟨S983040x64, .f32⟩
  | .hbm, ⟨71, _⟩ => ⟨S983040x64, .f32⟩
  | .hbm, ⟨72, _⟩ => ⟨S491520x128, .f32⟩
  | .hbm, ⟨73, _⟩ => ⟨S245760x128, .i8⟩
  | .hbm, ⟨74, _⟩ => ⟨S7680x128, .bf16⟩
  | .hbm, ⟨75, _⟩ => ⟨S983040, .i8⟩
  | .hbm, ⟨76, _⟩ => ⟨S7680x128, .i8⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_c_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_c_6 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Norm.lean ====
abbrev S30 : Shape := ⟨1, ![30]⟩
abbrev S1x1 : Shape := ⟨2, ![1, 1]⟩
abbrev S491520x128 : Shape := ⟨2, ![491520, 128]⟩
abbrev S32x1 : Shape := ⟨2, ![32, 1]⟩
abbrev S8192x128 : Shape := ⟨2, ![8192, 128]⟩
abbrev S32x8x128 : Shape := ⟨3, ![32, 8, 128]⟩
abbrev S1 : Shape := ⟨1, ![1]⟩
abbrev S1024x128 : Shape := ⟨2, ![1024, 128]⟩
abbrev S512x128 : Shape := ⟨2, ![512, 128]⟩
abbrev S1x8x128 : Shape := ⟨3, ![1, 8, 128]⟩
abbrev S8x128 : Shape := ⟨2, ![8, 128]⟩
abbrev S64x8x128 : Shape := ⟨3, ![64, 8, 128]⟩
abbrev S32x128 : Shape := ⟨2, ![32, 128]⟩
abbrev S32 : Shape := ⟨1, ![32]⟩

abbrev nBuf : Space → Nat
  | .hbm => 6
  | .vmem => 6
  | .smem => 3
  | _ => 0

abbrev bufTy : (tb : Table) → Fin (tcTables nBuf tb) → BufTy
  | .hbm, ⟨0, _⟩ => ⟨S30, .i32⟩
  | .hbm, ⟨1, _⟩ => ⟨S1x1, .f32⟩
  | .hbm, ⟨2, _⟩ => ⟨S491520x128, .bf16⟩
  | .hbm, ⟨3, _⟩ => ⟨S32x1, .f32⟩
  | .hbm, ⟨4, _⟩ => ⟨S1x1, .f32⟩
  | .hbm, ⟨5, _⟩ => ⟨S1x1, .f32⟩
  | .local _ .vmem, ⟨0, _⟩ => ⟨S8192x128, .bf16⟩
  | .local _ .vmem, ⟨1, _⟩ => ⟨S8192x128, .bf16⟩
  | .local _ .vmem, ⟨2, _⟩ => ⟨S32x1, .f32⟩
  | .local _ .vmem, ⟨3, _⟩ => ⟨S1x1, .f32⟩
  | .local _ .vmem, ⟨4, _⟩ => ⟨S1x1, .f32⟩
  | .local _ .vmem, ⟨5, _⟩ => ⟨S32x8x128, .f32⟩
  | .local _ .smem, ⟨0, _⟩ => ⟨S30, .i32⟩
  | .local _ .smem, ⟨1, _⟩ => ⟨S1x1, .f32⟩
  | .local _ .smem, ⟨2, _⟩ => ⟨S1, .i32⟩
  | _, _ => ⟨S30, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [BitOps F]

abbrev grid0 : Pipeline.Grid := ⟨1, ![60], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (arg10 : BitVec 32) : Fin 1 → Nat :=
  let c1_i32_14 : BitVec 32 := 1#32
  let v45 : BitVec 32 := Scalar.addi arg10 c1_i32_14
  let c29_i32 : BitVec 32 := 29#32
  let v46 : BitVec 32 := Scalar.minsi v45 c29_i32
  let v47 : Index := Scalar.indexCast v46
  ![v47.toNat]

def k0_chk1 (arg10 : BitVec 32) : Prop :=
  (∀ a, (k0_off1 arg10) a + S1.size a ≤ S30.size a)
theorem k0_off1_inb : ∀ (arg10 : BitVec 32) (k0_hw1 : k0_chk1 arg10), ∀ a, (k0_off1 arg10) a + S1.size a ≤ S30.size a := fun arg10 k0_hw1 => k0_hw1

def k0_mult1 (k0_t1 : Fin k0_t1_loop.trips) : BitVec 32 :=
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let c1024_i32_9 : BitVec 32 := 1024#32
  let v17 : BitVec 32 := Scalar.muli v8 c1024_i32_9
  v17
def k0_off2 (k0_t1 : Fin k0_t1_loop.trips) : Fin 2 → Nat :=
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let c1024_i32_9 : BitVec 32 := 1024#32
  let v17 : BitVec 32 := Scalar.muli v8 c1024_i32_9
  let v18 : BitVec 32 := v17
  let v19 : Index := Scalar.indexCast v18
  let c0_10 : Index := 0#32
  ![v19.toNat, 0]
def k0_off3 (v15 : BitVec 32) : Fin 1 → Nat :=
  let v31 : Index := Scalar.indexCast v15
  ![v31.toNat]

def k0_off4 (v15 : BitVec 32) : Fin 1 → Nat :=
  let c1_i32_11 : BitVec 32 := 1#32
  let v34 : BitVec 32 := Scalar.addi v15 c1_i32_11
  let v35 : Index := Scalar.indexCast v34
  ![v35.toNat]

def k0_chk2 (v15 : BitVec 32) : Prop :=
  (∀ a, (k0_off3 v15) a + S1.size a ≤ S30.size a) ∧
  (∀ a, (k0_off4 v15) a + S1.size a ≤ S30.size a)
theorem k0_off3_inb : ∀ (v15 : BitVec 32) (k0_hw2 : k0_chk2 v15), ∀ a, (k0_off3 v15) a + S1.size a ≤ S30.size a := fun v15 k0_hw2 => k0_hw2.1
theorem k0_off4_inb : ∀ (v15 : BitVec 32) (k0_hw2 : k0_chk2 v15), ∀ a, (k0_off4 v15) a + S1.size a ≤ S30.size a := fun v15 k0_hw2 => k0_hw2.2

def k0_off5 (v15 : BitVec 32) : Fin 3 → Nat :=
  let v44 : Index := Scalar.indexCast v15
  let c0_14 : Index := 0#32
  let c0_15 : Index := 0#32
  ![v44.toNat, 0, 0]
def k0_cond2 (i : grid0.Coords) (k0_t1 : Fin k0_t1_loop.trips) (v32 : BitVec 32) (v36 : BitVec 32) : BitVec 1 :=
  let arg0 : BitVec 32 := BitVec.ofNat 32 (i 0).val
  let c8_i32_6 : BitVec 32 := 8#32
  let v9 : BitVec 32 := Scalar.muli arg0 c8_i32_6
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let v10 : BitVec 32 := Scalar.addi v9 v8
  let c131072_i32 : BitVec 32 := 131072#32
  let v11 : BitVec 32 := Scalar.muli v10 c131072_i32
  let v33 : BitVec 1 := Scalar.cmpi .sle v32 v11
  let c131072_i32_7 : BitVec 32 := 131072#32
  let v12 : BitVec 32 := Scalar.addi v11 c131072_i32_7
  let c1024_i32 : BitVec 32 := 1024#32
  let v13 : BitVec 32 := Scalar.subi v12 c1024_i32
  let v37 : BitVec 1 := Scalar.cmpi .slt v13 v36
  let v38 : BitVec 1 := Scalar.andi v33 v37
  let v39 : BitVec 32 := Scalar.extui v38
  let c0_i32_12 : BitVec 32 := 0#32
  let v40 : BitVec 1 := Scalar.cmpi .ne v39 c0_i32_12
  v40

@[reducible] def k0_t2_loop (v15 : BitVec 32) : Scf.Loop 32 :=
  let c0_i32_25 : BitVec 32 := 0#32
  let c29_i32 : BitVec 32 := 29#32
  let v73 : BitVec 32 := Scalar.subi c29_i32 v15
  let c1_i32_21 : BitVec 32 := 1#32
  let c1_i32_22 : BitVec 32 := 1#32
  let v74 : BitVec 32 := Scalar.subi c1_i32_21 c1_i32_22
  let v75 : BitVec 32 := Scalar.addi v73 v74
  let c1_i32_23 : BitVec 32 := 1#32
  let v76 : BitVec 32 := Scalar.divsi v75 c1_i32_23
  let v77 : BitVec 32 := Scalar.subi v76 c0_i32_25
  let c1_i32_26 : BitVec 32 := 1#32
  let v79 : BitVec 32 := Scalar.divsi v77 c1_i32_26
  let v80 : BitVec 32 := Scalar.muli v79 c1_i32_26
  let v81 : BitVec 32 := Scalar.addi c0_i32_25 v80
  let c1_i32_27 : BitVec 32 := 1#32
  ⟨c0_i32_25, v81, c1_i32_27⟩
def k0_cond3 (i : grid0.Coords) (k0_t1 : Fin k0_t1_loop.trips) (v32 : BitVec 32) (v36 : BitVec 32) : BitVec 1 :=
  let arg0 : BitVec 32 := BitVec.ofNat 32 (i 0).val
  let c8_i32_6 : BitVec 32 := 8#32
  let v9 : BitVec 32 := Scalar.muli arg0 c8_i32_6
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let v10 : BitVec 32 := Scalar.addi v9 v8
  let c131072_i32 : BitVec 32 := 131072#32
  let v11 : BitVec 32 := Scalar.muli v10 c131072_i32
  let v33 : BitVec 1 := Scalar.cmpi .sle v32 v11
  let c131072_i32_7 : BitVec 32 := 131072#32
  let v12 : BitVec 32 := Scalar.addi v11 c131072_i32_7
  let c1024_i32 : BitVec 32 := 1024#32
  let v13 : BitVec 32 := Scalar.subi v12 c1024_i32
  let v37 : BitVec 1 := Scalar.cmpi .slt v13 v36
  let v38 : BitVec 1 := Scalar.andi v33 v37
  let v_true : BitVec 1 := 1#1
  let v41 : BitVec 1 := Scalar.xori v38 v_true
  let v42 : BitVec 32 := Scalar.extui v41
  let c0_i32_13 : BitVec 32 := 0#32
  let v43 : BitVec 1 := Scalar.cmpi .ne v42 c0_i32_13
  v43

def k0_off6 (v15 : BitVec 32) (k0_t2 : Fin (k0_t2_loop v15).trips) : Fin 1 → Nat :=
  let c0_i32_25 : BitVec 32 := 0#32
  let c1_i32_27 : BitVec 32 := 1#32
  let arg10 : BitVec 32 := Scf.iv c0_i32_25 c1_i32_27 k0_t2
  let c1_i32_24 : BitVec 32 := 1#32
  let v82 : BitVec 32 := Scalar.muli arg10 c1_i32_24
  let v83 : BitVec 32 := Scalar.addi v15 v82
  let v84 : Index := Scalar.indexCast v83
  ![v84.toNat]
def k0_off7 (v15 : BitVec 32) (k0_t2 : Fin (k0_t2_loop v15).trips) : Fin 1 → Nat :=
  let c0_i32_25 : BitVec 32 := 0#32
  let c1_i32_27 : BitVec 32 := 1#32
  let arg10 : BitVec 32 := Scf.iv c0_i32_25 c1_i32_27 k0_t2
  let c1_i32_24 : BitVec 32 := 1#32
  let v82 : BitVec 32 := Scalar.muli arg10 c1_i32_24
  let v83 : BitVec 32 := Scalar.addi v15 v82
  let c1_i32_29 : BitVec 32 := 1#32
  let v86 : BitVec 32 := Scalar.addi v83 c1_i32_29
  let v87 : Index := Scalar.indexCast v86
  ![v87.toNat]
def k0_off8 (v15 : BitVec 32) (k0_t2 : Fin (k0_t2_loop v15).trips) : Fin 3 → Nat :=
  let c0_i32_25 : BitVec 32 := 0#32
  let c1_i32_27 : BitVec 32 := 1#32
  let arg10 : BitVec 32 := Scf.iv c0_i32_25 c1_i32_27 k0_t2
  let c1_i32_24 : BitVec 32 := 1#32
  let v82 : BitVec 32 := Scalar.muli arg10 c1_i32_24
  let v83 : BitVec 32 := Scalar.addi v15 v82
  let v103 : Index := Scalar.indexCast v83
  let c0_31 : Index := 0#32
  let c0_32 : Index := 0#32
  ![v103.toNat, 0, 0]
def k0_cond4 (i : grid0.Coords) (k0_t1 : Fin k0_t1_loop.trips) (v85 : BitVec 32) (v88 : BitVec 32) : BitVec 1 :=
  let arg0 : BitVec 32 := BitVec.ofNat 32 (i 0).val
  let c8_i32_6 : BitVec 32 := 8#32
  let v9 : BitVec 32 := Scalar.muli arg0 c8_i32_6
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let v10 : BitVec 32 := Scalar.addi v9 v8
  let c131072_i32 : BitVec 32 := 131072#32
  let v11 : BitVec 32 := Scalar.muli v10 c131072_i32
  let c131072_i32_7 : BitVec 32 := 131072#32
  let v12 : BitVec 32 := Scalar.addi v11 c131072_i32_7
  let c1024_i32 : BitVec 32 := 1024#32
  let v13 : BitVec 32 := Scalar.subi v12 c1024_i32
  let v89 : BitVec 1 := Scalar.cmpi .sle v85 v13
  let v90 : BitVec 1 := Scalar.cmpi .sgt v88 v11
  let v91 : BitVec 1 := Scalar.andi v89 v90
  let v92 : BitVec 1 := Scalar.cmpi .slt v85 v88
  let v93 : BitVec 1 := Scalar.andi v91 v92
  let v94 : BitVec 32 := Scalar.extui v93
  let c0_i32_30 : BitVec 32 := 0#32
  let v95 : BitVec 1 := Scalar.cmpi .ne v94 c0_i32_30
  v95

def k0_chk4 (i : grid0.Coords) (k0_t1 : Fin k0_t1_loop.trips) (v15 : BitVec 32) (v32 : BitVec 32) (v36 : BitVec 32) (k0_t2 : Fin (k0_t2_loop v15).trips) (v85 : BitVec 32) (v88 : BitVec 32) : Prop :=
  (∀ (k0_h3 : k0_cond3 i k0_t1 v32 v36 = 1#1), ∀ (k0_h4 : k0_cond4 i k0_t1 v85 v88 = 1#1), ∀ a, (k0_off8 v15 k0_t2) a + S1x8x128.size a ≤ S32x8x128.size a)
theorem k0_off8_inb : ∀ (i : grid0.Coords) (k0_t1 : Fin k0_t1_loop.trips) (v15 : BitVec 32) (v32 : BitVec 32) (v36 : BitVec 32) (k0_t2 : Fin (k0_t2_loop v15).trips) (v85 : BitVec 32) (v88 : BitVec 32) (k0_hw4 : k0_chk4 i k0_t1 v15 v32 v36 k0_t2 v85 v88), ∀ (k0_h3 : k0_cond3 i k0_t1 v32 v36 = 1#1), ∀ (k0_h4 : k0_cond4 i k0_t1 v85 v88 = 1#1), ∀ a, (k0_off8 v15 k0_t2) a + S1x8x128.size a ≤ S32x8x128.size a := fun i k0_t1 v15 v32 v36 k0_t2 v85 v88 k0_hw4 k0_h3 k0_h4 => k0_hw4 k0_h3 k0_h4

@[reducible] def k0_t3_loop (v15 : BitVec 32) : Scf.Loop 32 :=
  let c0_i32_25 : BitVec 32 := 0#32
  let c29_i32 : BitVec 32 := 29#32
  let v73 : BitVec 32 := Scalar.subi c29_i32 v15
  let c1_i32_21 : BitVec 32 := 1#32
  let c1_i32_22 : BitVec 32 := 1#32
  let v74 : BitVec 32 := Scalar.subi c1_i32_21 c1_i32_22
  let v75 : BitVec 32 := Scalar.addi v73 v74
  let c1_i32_23 : BitVec 32 := 1#32
  let v76 : BitVec 32 := Scalar.divsi v75 c1_i32_23
  let v77 : BitVec 32 := Scalar.subi v76 c0_i32_25
  let c1_i32_26 : BitVec 32 := 1#32
  let v79 : BitVec 32 := Scalar.divsi v77 c1_i32_26
  let v80 : BitVec 32 := Scalar.muli v79 c1_i32_26
  let v81 : BitVec 32 := Scalar.addi c0_i32_25 v80
  let v78 : BitVec 32 := Scalar.addi c0_i32_25 v77
  let c1_i32_28 : BitVec 32 := 1#32
  ⟨v81, v78, c1_i32_28⟩
def k0_off9 (v15 : BitVec 32) (k0_t3 : Fin (k0_t3_loop v15).trips) : Fin 1 → Nat :=
  let c0_i32_25 : BitVec 32 := 0#32
  let c29_i32 : BitVec 32 := 29#32
  let v73 : BitVec 32 := Scalar.subi c29_i32 v15
  let c1_i32_21 : BitVec 32 := 1#32
  let c1_i32_22 : BitVec 32 := 1#32
  let v74 : BitVec 32 := Scalar.subi c1_i32_21 c1_i32_22
  let v75 : BitVec 32 := Scalar.addi v73 v74
  let c1_i32_23 : BitVec 32 := 1#32
  let v76 : BitVec 32 := Scalar.divsi v75 c1_i32_23
  let v77 : BitVec 32 := Scalar.subi v76 c0_i32_25
  let c1_i32_26 : BitVec 32 := 1#32
  let v79 : BitVec 32 := Scalar.divsi v77 c1_i32_26
  let v80 : BitVec 32 := Scalar.muli v79 c1_i32_26
  let v81 : BitVec 32 := Scalar.addi c0_i32_25 v80
  let c1_i32_28 : BitVec 32 := 1#32
  let arg10 : BitVec 32 := Scf.iv v81 c1_i32_28 k0_t3
  let c1_i32_24 : BitVec 32 := 1#32
  let v82 : BitVec 32 := Scalar.muli arg10 c1_i32_24
  let v83 : BitVec 32 := Scalar.addi v15 v82
  let v84 : Index := Scalar.indexCast v83
  ![v84.toNat]
def k0_off10 (v15 : BitVec 32) (k0_t3 : Fin (k0_t3_loop v15).trips) : Fin 1 → Nat :=
  let c0_i32_25 : BitVec 32 := 0#32
  let c29_i32 : BitVec 32 := 29#32
  let v73 : BitVec 32 := Scalar.subi c29_i32 v15
  let c1_i32_21 : BitVec 32 := 1#32
  let c1_i32_22 : BitVec 32 := 1#32
  let v74 : BitVec 32 := Scalar.subi c1_i32_21 c1_i32_22
  let v75 : BitVec 32 := Scalar.addi v73 v74
  let c1_i32_23 : BitVec 32 := 1#32
  let v76 : BitVec 32 := Scalar.divsi v75 c1_i32_23
  let v77 : BitVec 32 := Scalar.subi v76 c0_i32_25
  let c1_i32_26 : BitVec 32 := 1#32
  let v79 : BitVec 32 := Scalar.divsi v77 c1_i32_26
  let v80 : BitVec 32 := Scalar.muli v79 c1_i32_26
  let v81 : BitVec 32 := Scalar.addi c0_i32_25 v80
  let c1_i32_28 : BitVec 32 := 1#32
  let arg10 : BitVec 32 := Scf.iv v81 c1_i32_28 k0_t3
  let c1_i32_24 : BitVec 32 := 1#32
  let v82 : BitVec 32 := Scalar.muli arg10 c1_i32_24
  let v83 : BitVec 32 := Scalar.addi v15 v82
  let c1_i32_29 : BitVec 32 := 1#32
  let v86 : BitVec 32 := Scalar.addi v83 c1_i32_29
  let v87 : Index := Scalar.indexCast v86
  ![v87.toNat]

def k0_chk3 (i : grid0.Coords) (k0_t1 : Fin k0_t1_loop.trips) (v15 : BitVec 32) (v32 : BitVec 32) (v36 : BitVec 32) : Prop :=
  (∀ (k0_h2 : k0_cond2 i k0_t1 v32 v36 = 1#1), ∀ a, (k0_off5 v15) a + S1x8x128.size a ≤ S32x8x128.size a) ∧
  (∀ (k0_h3 : k0_cond3 i k0_t1 v32 v36 = 1#1), (k0_t2_loop v15).OK) ∧
  (∀ k0_t2 : Fin (k0_t2_loop v15).trips, ∀ (k0_h3 : k0_cond3 i k0_t1 v32 v36 = 1#1), ∀ a, (k0_off6 v15 k0_t2) a + S1.size a ≤ S30.size a) ∧
  (∀ k0_t2 : Fin (k0_t2_loop v15).trips, ∀ (k0_h3 : k0_cond3 i k0_t1 v32 v36 = 1#1), ∀ a, (k0_off7 v15 k0_t2) a + S1.size a ≤ S30.size a) ∧
  (∀ (k0_h3 : k0_cond3 i k0_t1 v32 v36 = 1#1), (k0_t3_loop v15).OK) ∧
  (∀ k0_t3 : Fin (k0_t3_loop v15).trips, ∀ (k0_h3 : k0_cond3 i k0_t1 v32 v36 = 1#1), ∀ a, (k0_off9 v15 k0_t3) a + S1.size a ≤ S30.size a) ∧
  (∀ k0_t3 : Fin (k0_t3_loop v15).trips, ∀ (k0_h3 : k0_cond3 i k0_t1 v32 v36 = 1#1), ∀ a, (k0_off10 v15 k0_t3) a + S1.size a ≤ S30.size a)
theorem k0_off5_inb : ∀ (i : grid0.Coords) (k0_t1 : Fin k0_t1_loop.trips) (v15 : BitVec 32) (v32 : BitVec 32) (v36 : BitVec 32) (k0_hw3 : k0_chk3 i k0_t1 v15 v32 v36), ∀ (k0_h2 : k0_cond2 i k0_t1 v32 v36 = 1#1), ∀ a, (k0_off5 v15) a + S1x8x128.size a ≤ S32x8x128.size a := fun i k0_t1 v15 v32 v36 k0_hw3 k0_h2 => k0_hw3.1 k0_h2
theorem k0_t2_ok : ∀ (i : grid0.Coords) (k0_t1 : Fin k0_t1_loop.trips) (v15 : BitVec 32) (v32 : BitVec 32) (v36 : BitVec 32) (k0_hw3 : k0_chk3 i k0_t1 v15 v32 v36), ∀ (k0_h3 : k0_cond3 i k0_t1 v32 v36 = 1#1), (k0_t2_loop v15).OK := fun i k0_t1 v15 v32 v36 k0_hw3 k0_h3 => k0_hw3.2.1 k0_h3
theorem k0_off6_inb : ∀ (i : grid0.Coords) (k0_t1 : Fin k0_t1_loop.trips) (v15 : BitVec 32) (v32 : BitVec 32) (v36 : BitVec 32) (k0_hw3 : k0_chk3 i k0_t1 v15 v32 v36) (k0_t2 : Fin (k0_t2_loop v15).trips), ∀ (k0_h3 : k0_cond3 i k0_t1 v32 v36 = 1#1), ∀ a, (k0_off6 v15 k0_t2) a + S1.size a ≤ S30.size a := fun i k0_t1 v15 v32 v36 k0_hw3 k0_t2 k0_h3 => k0_hw3.2.2.1 k0_t2 k0_h3
theorem k0_off7_inb : ∀ (i : grid0.Coords) (k0_t1 : Fin k0_t1_loop.trips) (v15 : BitVec 32) (v32 : BitVec 32) (v36 : BitVec 32) (k0_hw3 : k0_chk3 i k0_t1 v15 v32 v36) (k0_t2 : Fin (k0_t2_loop v15).trips), ∀ (k0_h3 : k0_cond3 i k0_t1 v32 v36 = 1#1), ∀ a, (k0_off7 v15 k0_t2) a + S1.size a ≤ S30.size a := fun i k0_t1 v15 v32 v36 k0_hw3 k0_t2 k0_h3 => k0_hw3.2.2.2.1 k0_t2 k0_h3
theorem k0_t3_ok : ∀ (i : grid0.Coords) (k0_t1 : Fin k0_t1_loop.trips) (v15 : BitVec 32) (v32 : BitVec 32) (v36 : BitVec 32) (k0_hw3 : k0_chk3 i k0_t1 v15 v32 v36), ∀ (k0_h3 : k0_cond3 i k0_t1 v32 v36 = 1#1), (k0_t3_loop v15).OK := fun i k0_t1 v15 v32 v36 k0_hw3 k0_h3 => k0_hw3.2.2.2.2.1 k0_h3
theorem k0_off9_inb : ∀ (i : grid0.Coords) (k0_t1 : Fin k0_t1_loop.trips) (v15 : BitVec 32) (v32 : BitVec 32) (v36 : BitVec 32) (k0_hw3 : k0_chk3 i k0_t1 v15 v32 v36) (k0_t3 : Fin (k0_t3_loop v15).trips), ∀ (k0_h3 : k0_cond3 i k0_t1 v32 v36 = 1#1), ∀ a, (k0_off9 v15 k0_t3) a + S1.size a ≤ S30.size a := fun i k0_t1 v15 v32 v36 k0_hw3 k0_t3 k0_h3 => k0_hw3.2.2.2.2.2.1 k0_t3 k0_h3
theorem k0_off10_inb : ∀ (i : grid0.Coords) (k0_t1 : Fin k0_t1_loop.trips) (v15 : BitVec 32) (v32 : BitVec 32) (v36 : BitVec 32) (k0_hw3 : k0_chk3 i k0_t1 v15 v32 v36) (k0_t3 : Fin (k0_t3_loop v15).trips), ∀ (k0_h3 : k0_cond3 i k0_t1 v32 v36 = 1#1), ∀ a, (k0_off10 v15 k0_t3) a + S1.size a ≤ S30.size a := fun i k0_t1 v15 v32 v36 k0_hw3 k0_t3 k0_h3 => k0_hw3.2.2.2.2.2.2 k0_t3 k0_h3

def k0_off11 (v15 : BitVec 32) (k0_t3 : Fin (k0_t3_loop v15).trips) : Fin 3 → Nat :=
  let c0_i32_25 : BitVec 32 := 0#32
  let c29_i32 : BitVec 32 := 29#32
  let v73 : BitVec 32 := Scalar.subi c29_i32 v15
  let c1_i32_21 : BitVec 32 := 1#32
  let c1_i32_22 : BitVec 32 := 1#32
  let v74 : BitVec 32 := Scalar.subi c1_i32_21 c1_i32_22
  let v75 : BitVec 32 := Scalar.addi v73 v74
  let c1_i32_23 : BitVec 32 := 1#32
  let v76 : BitVec 32 := Scalar.divsi v75 c1_i32_23
  let v77 : BitVec 32 := Scalar.subi v76 c0_i32_25
  let c1_i32_26 : BitVec 32 := 1#32
  let v79 : BitVec 32 := Scalar.divsi v77 c1_i32_26
  let v80 : BitVec 32 := Scalar.muli v79 c1_i32_26
  let v81 : BitVec 32 := Scalar.addi c0_i32_25 v80
  let c1_i32_28 : BitVec 32 := 1#32
  let arg10 : BitVec 32 := Scf.iv v81 c1_i32_28 k0_t3
  let c1_i32_24 : BitVec 32 := 1#32
  let v82 : BitVec 32 := Scalar.muli arg10 c1_i32_24
  let v83 : BitVec 32 := Scalar.addi v15 v82
  let v103 : Index := Scalar.indexCast v83
  let c0_31 : Index := 0#32
  let c0_32 : Index := 0#32
  ![v103.toNat, 0, 0]
def k0_cond5 (i : grid0.Coords) (k0_t1 : Fin k0_t1_loop.trips) (v85 : BitVec 32) (v88 : BitVec 32) : BitVec 1 :=
  let arg0 : BitVec 32 := BitVec.ofNat 32 (i 0).val
  let c8_i32_6 : BitVec 32 := 8#32
  let v9 : BitVec 32 := Scalar.muli arg0 c8_i32_6
  let c0_i32_5 : BitVec 32 := 0#32
  let c0_i32_1 : BitVec 32 := 0#32
  let c1_i32 : BitVec 32 := 1#32
  let arg9 : BitVec 32 := Scf.iv c0_i32_1 c1_i32 k0_t1
  let c1_i32_4 : BitVec 32 := 1#32
  let v7 : BitVec 32 := Scalar.muli arg9 c1_i32_4
  let v8 : BitVec 32 := Scalar.addi c0_i32_5 v7
  let v10 : BitVec 32 := Scalar.addi v9 v8
  let c131072_i32 : BitVec 32 := 131072#32
  let v11 : BitVec 32 := Scalar.muli v10 c131072_i32
  let c131072_i32_7 : BitVec 32 := 131072#32
  let v12 : BitVec 32 := Scalar.addi v11 c131072_i32_7
  let c1024_i32 : BitVec 32 := 1024#32
  let v13 : BitVec 32 := Scalar.subi v12 c1024_i32
  let v89 : BitVec 1 := Scalar.cmpi .sle v85 v13
  let v90 : BitVec 1 := Scalar.cmpi .sgt v88 v11
  let v91 : BitVec 1 := Scalar.andi v89 v90
  let v92 : BitVec 1 := Scalar.cmpi .slt v85 v88
  let v93 : BitVec 1 := Scalar.andi v91 v92
  let v94 : BitVec 32 := Scalar.extui v93
  let c0_i32_30 : BitVec 32 := 0#32
  let v95 : BitVec 1 := Scalar.cmpi .ne v94 c0_i32_30
  v95

def k0_chk5 (i : grid0.Coords) (k0_t1 : Fin k0_t1_loop.trips) (v15 : BitVec 32) (v32 : BitVec 32) (v36 : BitVec 32) (k0_t3 : Fin (k0_t3_loop v15).trips) (v85 : BitVec 32) (v88 : BitVec 32) : Prop :=
  (∀ (k0_h3 : k0_cond3 i k0_t1 v32 v36 = 1#1), ∀ (k0_h5 : k0_cond5 i k0_t1 v85 v88 = 1#1), ∀ a, (k0_off11 v15 k0_t3) a + S1x8x128.size a ≤ S32x8x128.size a)
theorem k0_off11_inb : ∀ (i : grid0.Coords) (k0_t1 : Fin k0_t1_loop.trips) (v15 : BitVec 32) (v32 : BitVec 32) (v36 : BitVec 32) (k0_t3 : Fin (k0_t3_loop v15).trips) (v85 : BitVec 32) (v88 : BitVec 32) (k0_hw5 : k0_chk5 i k0_t1 v15 v32 v36 k0_t3 v85 v88), ∀ (k0_h3 : k0_cond3 i k0_t1 v32 v36 = 1#1), ∀ (k0_h5 : k0_cond5 i k0_t1 v85 v88 = 1#1), ∀ a, (k0_off11 v15 k0_t3) a + S1x8x128.size a ≤ S32x8x128.size a := fun i k0_t1 v15 v32 v36 k0_t3 v85 v88 k0_hw5 k0_h3 k0_h5 => k0_hw5 k0_h3 k0_h5

def k0_cond6 (i : grid0.Coords) : BitVec 1 :=
  let arg0 : BitVec 32 := BitVec.ofNat 32 (i 0).val
  let c59_i32 : BitVec 32 := 59#32
  let v4 : BitVec 1 := Scalar.cmpi .eq arg0 c59_i32
  let v5 : BitVec 32 := Scalar.extui v4
  let c0_i32_3 : BitVec 32 := 0#32
  let v6 : BitVec 1 := Scalar.cmpi .ne v5 c0_i32_3
  v6

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S30 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormIdeal.lean ====
variable {F : FTy → Type} [FloatOps F]
-- ==== Proof.KernelRun.lean ====
/-
  The machine's run of the kernel as printed: it terminates without a fault, leaves its three argument arrays as they
  were and every semaphore counter at zero. Nothing is said here of what the results hold.

  One trip of the loop over the groups is run once, for a symbolic trip; the loop's invariant holds every buffer the
  trip stores into at some contents. The body at one grid point is then run through the loop, and the launch theorem of
  the pipeline library takes the body's run to the whole program's.
-/
module

public import proofs.«01_k».proof.Defs
public import proofs.«01_k».proof.Proof.Gen.Kernel.Frame
public import proofs.«01_k».proof.Proof.Gen.Kernel.Loops
public import proofs.«01_k».proof.Proof.Gen.Kernel.Skeleton
public import proofs.«01_k».proof.Proof.Gen.Kernel.Points
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

abbrev 𝒱₀ : Variants := Variants.none

/-- The contents of memref `M`'s buffer on core `c`, and the memref held at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

section Trip

variable (c : Dev nD) (i : grid0.Coords) (arg1 : Memref sig .tc .smem S1x1 .f32) (harg1 : arg1.IsWhole) (arg2 : Memref sig .tc .vmem S16x384 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2048x128 .i8) (harg7 : arg7.IsWhole) (arg8 : Memref sig .tc .vmem S64x128 .bf16) (harg8 : arg8.IsWhole) (arg9 : Memref sig .tc .vmem S64x128 .i8) (harg9 : arg9.IsWhole) (arg10 : Memref sig .tc .vmem S4x128x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S64x128 .i32) (harg14 : arg14.IsWhole) (arg15 : Memref sig .tc .vmem S64x128 .f32) (harg15 : arg15.IsWhole)

/-- What one trip of the loop touches: the two input blocks at their contents, every buffer stored into at some. -/
def tripRes (f4 : Bf (F := F) c arg4) (f5 : Bf (F := F) c arg5) : sProp 𝕄 :=
  iprop(pt c arg4 f4 ∗ pt c arg5 f5 ∗ (∃ f : Bf (F := F) c arg6, pt c arg6 f) ∗ (∃ f : Bf (F := F) c arg7, pt c arg7 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f))

set_option sl_exec.stridedRows true
set_option maxHeartbeats 0
set_option maxRecDepth 10000

/-- One trip of the loop, from any contents of the buffers it stores into, hands the input blocks back unchanged. -/
theorem trip_run (v0 : F .f32) (v1 : Vec F S16x384 .bf16) (v2 : Vec F S256x128 .bf16) (k : Fin k0_t1_loop.trips)
    (f4 : Bf (F := F) c arg4) (f5 : Bf (F := F) c arg5) :
    tripRes c arg4 arg5 arg6 arg7 arg10 arg11 arg12 arg13 arg14 arg15 f4 f5
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k ())
      (fun _ => tripRes c arg4 arg5 arg6 arg7 arg10 arg11 arg12 arg13 arg14 arg15 f4 f5) := by
  unfold tripRes
  iintro ⟨H4, H5, ⟨%f6, H6⟩, ⟨%f7, H7⟩, ⟨%f10, H10⟩, ⟨%f11, H11⟩, ⟨%f12, H12⟩, ⟨%f13, H13⟩, ⟨%f14, H14⟩, ⟨%f15, H15⟩⟩
  sl_unfold [k0_t1_body]
  sl_exec
  sl_step
  isplitl [H4]; · iexact H4
  isplitl [H5]; · iexact H5
  isplitl [H6]; · iexists _; iexact H6
  isplitl [H7]; · iexists _; iexact H7
  isplitl [H10]; · iexists _; iexact H10
  isplitl [H11]; · iexists _; iexact H11
  isplitl [H12]; · iexists _; iexact H12
  isplitl [H13]; · iexists _; iexact H13
  isplitl [H14]; · iexists _; iexact H14
  iexists _; iexact H15

set_option warn.classDefReducibility false in
/-- The loop's invariant: the same at every trip. -/
@[sl_loop] def loopInv (v0 : F .f32) (v1 : Vec F S16x384 .bf16) (v2 : Vec F S256x128 .bf16)
    (f4 : Bf (F := F) c arg4) (f5 : Bf (F := F) c arg5) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 where
  inv _ _ := tripRes c arg4 arg5 arg6 arg7 arg10 arg11 arg12 arg13 arg14 arg15 f4 f5
  step k _ := trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k f4 f5

/-- The body at one grid point: from the five input blocks at their contents and the results and scratches at any, it
    returns with the input blocks as they were. -/
theorem body_run (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15)
    ⊢ wp frame (wpE (defs₀ (F := F)) 𝒱₀ (c : Thread nD τ) none) Set.univ (cc0_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (fun _ => iprop(pt c arg1 f1 ∗ pt c arg2 f2 ∗ pt c arg3 f3 ∗ pt c arg4 f4 ∗ pt c arg5 f5 ∗ (∃ f : Bf (F := F) c arg6, pt c arg6 f) ∗ (∃ f : Bf (F := F) c arg7, pt c arg7 f) ∗ (∃ f : Bf (F := F) c arg8, pt c arg8 f) ∗ (∃ f : Bf (F := F) c arg9, pt c arg9 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f))) := by
  rw [cc0_quant_eq_skeleton]
  iintro ⟨H1, H2, H3, H4, H5, H6, H7, H8, H9, H10, H11, H12, H13, H14, H15⟩
  sl_unfold [cc0_quant_skel]
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Trip

end Cert.Proof.Kernel

end
-- ==== Proof.KernelFrame.lean ====
/-
  The frame of the kernel as printed, from the body's run (KernelRun): the pipeline's proof data, with what the result
  windows hold left unsaid, the body obligation at every grid point, and the launch.
-/
module

public import proofs.«01_k».proof.Proof.KernelRun
public import proofs.«01_k».proof.Proof.Gen.Kernel.Launch
public import Idealize.ShloMosaic.Lib.Pipeline.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows whose contents are left unsaid: the four results. -/
def fgt (w : Fin cfg0.W) : Bool := match w with
  | ⟨0, _⟩ => false | ⟨1, _⟩ => false | ⟨2, _⟩ => false | ⟨3, _⟩ => false | ⟨4, _⟩ => false
  | ⟨5, _⟩ => true | ⟨6, _⟩ => true | ⟨7, _⟩ => true | ⟨8, _⟩ => true

/-- The proof data on core `c`: each array at its contents when the region is entered, each input block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

/-- A scratch buffer of the kernel, held through its whole memref. -/
theorem pt_whole (c : Dev nD) (b : Ref sig .tc) (f : Buf (Elt F) ((c : Thread nD τ).loc b)) :
    (pt c (Memref.whole b) f : sProp 𝕄) = ((c : Thread nD τ).loc b ↦{fullShare} f) := by
  unfold pt; simp only [Memref.view_whole, View.set_whole]

/-- The kernel the pipeline calls at point `t` is the printed body on the point's staging buffers. -/
theorem defs₀_row (t : Fin cfg0.N) : defs₀ (F := F) .tc cfg0.body (cfg0.bodyArgs t (cfg0.slots t)) = Gen.bodyAt0 t := by
  unfold defs₀; rw [Defs.onTc_tc]

set_option maxHeartbeats 0 in
theorem body_obligation (c : Dev nD) : BodyObligationLoose (dats m 0 c) (defs₀ (F := F)) 𝒱₀ () Set.univ fgt := fun t => by
  rw [bigSep_W0, bigSep_W0, defs₀_row]
  dsimp only [fgt]
  rw [show (dats m 0 c).Φ t.castSucc = Pipeline.ΦA spec0 c from rfl, show (dats m 0 c).Φ t.succ = Pipeline.ΦA spec0 c from rfl]
  unfold Pipeline.ΦA
  rw [scopedRest0_eq]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl)]
  simp only [← pt_whole]
  unfold owns Dat.owesAt Pipeline.owesWithin
  iintro ⟨⟨⟨⟨%s0, S0⟩, ⟨%s1, S1⟩, ⟨%s2, S2⟩, ⟨%s3, S3⟩, ⟨%s4, S4⟩, ⟨%s5, S5⟩⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  iapply (wp_wand_r Idealize.ShloMosaic.frame (wpE (defs₀ (F := F)) 𝒱₀ (c : Thread nD τ) none) Set.univ)
  isplitl [H0 H1 H2 H3 H4 H5 H6 H7 H8 S0 S1 S2 S3 S4 S5]
  · iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 s0 s1 s2 s3 s4 s5)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    iexact S5
  iintro %_ ⟨H0, H1, H2, H3, H4, ⟨%g5, H5⟩, ⟨%g6, H6⟩, ⟨%g7, H7⟩, ⟨%g8, H8⟩, ⟨%u0, S0⟩, ⟨%u1, S1⟩, ⟨%u2, S2⟩, ⟨%u3, S3⟩, ⟨%u4, S4⟩, ⟨%u5, S5⟩⟩
  isplitl [S0 S1 S2 S3 S4 S5 Hr]
  · isplitr [Hr]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hr
  isplitl [HO]
  · iexists W; isplitr
    · ipureintro; exact hW
    iexact HO
  isplitl [H0]
  · iexists f0; isplitr
    · ipureintro; exact hf0
    iexact H0
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists _, g5; isplitr
    · ipureintro; rfl
    iexact H5
  isplitl [H6]
  · iexists _, g6; isplitr
    · ipureintro; rfl
    iexact H6
  isplitl [H7]
  · iexists _, g7; isplitr
    · ipureintro; rfl
    iexact H7
  iexists _, g8; isplitr
  · ipureintro; rfl
  iexact H8

/-- THE FRAME: the run terminates without a fault, the argument arrays end as they began and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_frame_forget cfgs (dats m) 0 Gen.launch0 defs₀ 𝒱₀ fgt m ρ main (body_obligation m)
    (fun c => (dats m 0 c).share_full fun _ => rfl) (fun _ _ => rfl) (Gen.V m) (Gen.hmain m 𝒱₀) (A_eq m) (fun _ _ => rfl) _ ?_
  intro r h
  refine ⟨fun c => ⟨?_, ?_, ?_⟩, h.2⟩
  · exact (RDat.FramePost.arr_in h.1 c 0 rfl).trans ((A_eq m c 0).trans (Gen.V_main_arg0 m c))
  · exact (RDat.FramePost.arr_in h.1 c 3 rfl).trans ((A_eq m c 3).trans (Gen.V_main_arg1 m c))
  · exact (RDat.FramePost.arr_in h.1 c 4 rfl).trans ((A_eq m c 4).trans (Gen.V_main_arg2 m c))

end Cert.Proof.Kernel

end
-- ==== Proof.Trip.lean ====
/-
  One trip of the kernel's loop over the groups, run for a symbolic trip: from any contents of the buffers, each result
  buffer ends with a list of stores laid over what it held. The stores' contents are found by the run.
-/
module

public import proofs.«01_k».proof.Defs
public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.none

/-- The contents of memref `M`'s buffer on core `c`, and the memref held at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

section Trip

variable (c : Dev nD) (i : grid0.Coords) (arg1 : Memref sig .tc .smem S1x1 .f32) (harg1 : arg1.IsWhole) (arg2 : Memref sig .tc .vmem S16x384 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2048x128 .i8) (harg7 : arg7.IsWhole) (arg8 : Memref sig .tc .vmem S64x128 .bf16) (harg8 : arg8.IsWhole) (arg9 : Memref sig .tc .vmem S64x128 .i8) (harg9 : arg9.IsWhole) (arg10 : Memref sig .tc .vmem S4x128x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S64x128 .i32) (harg14 : arg14.IsWhole) (arg15 : Memref sig .tc .vmem S64x128 .f32) (harg15 : arg15.IsWhole)
  (v0 : F .f32) (v1 : Vec F S16x384 .bf16) (v2 : Vec F S256x128 .bf16)

set_option sl_exec.stridedRows true
set_option backward.proofsInPublic true
set_option maxHeartbeats 0
set_option maxRecDepth 10000

/-- One trip. -/
def tripRun (k : Fin k0_t1_loop.trips) (f4 : Bf (F := F) c arg4) (f5 : Bf (F := F) c arg5) (f6 : Bf (F := F) c arg6) (f7 : Bf (F := F) c arg7) (f10 : Bf (F := F) c arg10) (f11 : Bf (F := F) c arg11) (f12 : Bf (F := F) c arg12) (f13 : Bf (F := F) c arg13) (f14 : Bf (F := F) c arg14) (f15 : Bf (F := F) c arg15) :
    { w : List (View.Piece (Elt F) S4096x128 .f32) × List (View.Piece (Elt F) S2048x128 .i8) × List (View.Piece (Elt F) S64x128 .i32) × List (View.Piece (Elt F) S64x128 .f32) //
    (iprop(pt c arg4 f4 ∗ pt c arg5 f5 ∗ pt c arg6 f6 ∗ pt c arg7 f7 ∗ pt c arg10 f10 ∗ pt c arg11 f11 ∗ pt c arg12 f12 ∗ pt c arg13 f13 ∗ pt c arg14 f14 ∗ pt c arg15 f15) : sProp 𝕄)
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k ())
      (fun _ => iprop(pt c arg4 f4 ∗ pt c arg5 f5 ∗ pt c arg6 (arg6.view.writes (Elt F) f6 w.1) ∗ pt c arg7 (arg7.view.writes (Elt F) f7 w.2.1)
        ∗ (∃ g10 : Bf (F := F) c arg10, pt c arg10 g10) ∗ (∃ g11 : Bf (F := F) c arg11, pt c arg11 g11) ∗ (∃ g12 : Bf (F := F) c arg12, pt c arg12 g12) ∗ (∃ g13 : Bf (F := F) c arg13, pt c arg13 g13)
        ∗ pt c arg14 (arg14.view.writes (Elt F) f14 w.2.2.1) ∗ pt c arg15 (arg15.view.writes (Elt F) f15 w.2.2.2))) } := by
  refine ⟨⟨?_, ?_, ?_, ?_⟩, ?run⟩
  case run =>
  iintro ⟨H4, H5, H6, H7, H10, H11, H12, H13, H14, H15⟩
  sl_unfold [k0_t1_body]
  sl_exec
  sl_step
  isplitl [H4]; · iexact H4
  isplitl [H5]; · iexact H5
  isplitl [H6]; · iexact H6
  isplitl [H7]; · iexact H7
  isplitl [H10]; · iexists _; iexact H10
  isplitl [H11]; · iexists _; iexact H11
  isplitl [H12]; · iexists _; iexact H12
  isplitl [H13]; · iexists _; iexact H13
  isplitl [H14]; · iexact H14
  iexact H15

end Trip
end Cert.Proof.KernelIdeal
end
-- ==== Proof.Spec.lean ====
/-
  The quantisation as functions of flat positions, over the extended reals, and the facts on scalars that the proof uses.

  The elements of the two input arrays are numbered by their flat position. Sixty-four consecutive elements are a block.
  For the block `b` of an element sequence `x`: `mx` and `mn` are its largest and smallest element, `s` its scale, `z` its
  zero point; for the element `n`: `u` is its level, between 0 and 15, `err` what rounding left over; `code m` is the byte
  that holds the levels of the elements `2m` and `2m + 1`.
-/
module

public import Idealize.ShloMosaic.PureOps.Ideal
public import Idealize.ShloMosaic.PureOps.Ideal.Laws
public import Idealize.ShloMosaic.Lib.IdealHost
public import Mathlib.Data.EReal.Inv

@[expose] public section

noncomputable section

namespace Cert.Proof.Spec

open Idealize.ShloMosaic

/-- Rounding to the nearest integer, ties to even; the infinities stay. -/
abbrev rnd (e : EReal) : EReal := Ideal.liftRound Ideal.roundHalfEven e

/-- The widening factor 1 + 2^-12 of the range, as its f32 pattern. -/
abbrev widen : EReal := Ideal.ofBits .f32 0x3F800800#32

theorem widen_eq : widen = ((4097 / 4096 : ℝ) : EReal) := by
  simp [widen, Ideal.ofBits, Ideal.ieee, -EReal.coe_mul]; norm_num

theorem ofBits_15 : Ideal.ofBits .f32 0x41700000#32 = ((15 : ℝ) : EReal) := by
  simp [Ideal.ofBits, Ideal.ieee, -EReal.coe_mul]; norm_num
theorem ofBits_7_5 : Ideal.ofBits .f32 0x40F00000#32 = ((7.5 : ℝ) : EReal) := by
  simp [Ideal.ofBits, Ideal.ieee, -EReal.coe_mul]; norm_num
theorem ofBits_neg_7_5 : Ideal.ofBits .f32 0xC0F00000#32 = ((-7.5 : ℝ) : EReal) := by
  simp [Ideal.ofBits, Ideal.ieee, -EReal.coe_mul]; norm_num
theorem ofBits_127_5 : Ideal.ofBits .f32 0x42FF0000#32 = ((127.5 : ℝ) : EReal) := by
  simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- The scale of a block whose largest and smallest elements are `M` and `m`. -/
def scale (M m : EReal) : EReal := if M = m then 1 else Ideal.div ((M - m) * widen) ((15 : ℝ) : EReal)

/-- The zero point of a block of smallest element `m` and scale `s`. -/
def zero (m s : EReal) : EReal := min ((15 : ℝ) : EReal) (max 0 (rnd (Ideal.div (-m) s)))

/-- The level of an element `e` in a block of scale `s` and zero point `z`. -/
def level (e s z : EReal) : EReal := min ((15 : ℝ) : EReal) (max 0 (rnd (Ideal.div e s) + z))

section Flat
variable (x : ℕ → EReal)

/-- The largest and the smallest element of block `b`. -/
def mx (b : ℕ) : EReal := (Finset.range 64).sup fun i => x (64 * b + i)
def mn (b : ℕ) : EReal := (Finset.range 64).inf fun i => x (64 * b + i)
/-- The scale and the zero point of block `b`. -/
def s (b : ℕ) : EReal := scale (mx x b) (mn x b)
def z (b : ℕ) : EReal := zero (mn x b) (s x b)
/-- The level of element `n`, and its rounding error. -/
def u (n : ℕ) : EReal := level (x n) (s x (n / 64)) (z x (n / 64))
def err (n : ℕ) : EReal := x n - (u x n - z x (n / 64)) * s x (n / 64)
/-- The byte of the elements `2m` and `2m + 1`, and the zero point of block `b` as a byte. -/
def code (m : ℕ) : BitVec 8 :=
  (Ideal.fptosi 32 (u x (2 * m)) ||| (Ideal.fptosi 32 (u x (2 * m + 1)) <<< 4)).setWidth 8
def zp (b : ℕ) : BitVec 8 := (Ideal.fptosi 32 (z x b)).setWidth 8
end Flat

/-! ## Shifting the sequence by whole blocks -/
section Shift
variable (x y : ℕ → EReal) (B o : ℕ) (h : ∀ n, n < 64 * B → y n = x (64 * o + n))
include h

theorem mx_shift (b : ℕ) (hb : b < B) : mx y b = mx x (o + b) :=
  Finset.sup_congr rfl fun i hi => by
    have := Finset.mem_range.mp hi
    rw [h _ (by omega)]; congr 1; omega
theorem mn_shift (b : ℕ) (hb : b < B) : mn y b = mn x (o + b) :=
  Finset.inf_congr rfl fun i hi => by
    have := Finset.mem_range.mp hi
    rw [h _ (by omega)]; congr 1; omega
theorem s_shift (b : ℕ) (hb : b < B) : s y b = s x (o + b) := by
  unfold s; rw [mx_shift x y B o h b hb, mn_shift x y B o h b hb]
theorem z_shift (b : ℕ) (hb : b < B) : z y b = z x (o + b) := by
  unfold z; rw [s_shift x y B o h b hb, mn_shift x y B o h b hb]
theorem u_shift (n : ℕ) (hn : n < 64 * B) : u y n = u x (64 * o + n) := by
  have e : (64 * o + n) / 64 = o + n / 64 := by omega
  unfold u; rw [h n hn, e, s_shift x y B o h _ (by omega), z_shift x y B o h _ (by omega)]
theorem err_shift (n : ℕ) (hn : n < 64 * B) : err y n = err x (64 * o + n) := by
  have e : (64 * o + n) / 64 = o + n / 64 := by omega
  unfold err; rw [h n hn, u_shift x y B o h n hn, e, s_shift x y B o h _ (by omega), z_shift x y B o h _ (by omega)]
theorem code_shift (m : ℕ) (hm : m < 32 * B) : code y m = code x (32 * o + m) := by
  unfold code; rw [u_shift x y B o h _ (by omega), u_shift x y B o h _ (by omega)]
  rw [show 64 * o + 2 * m = 2 * (32 * o + m) by omega, show 64 * o + (2 * m + 1) = 2 * (32 * o + m) + 1 by omega]
theorem zp_shift (b : ℕ) (hb : b < B) : zp y b = zp x (o + b) := by
  unfold zp; rw [z_shift x y B o h b hb]
end Shift

/-! ## Largest and smallest of sixty-four, in eight times eight -/

theorem sup_fin {n : ℕ} (f : ℕ → EReal) : (Finset.univ : Finset (Fin n)).sup (fun i => f i.val) = (Finset.range n).sup f :=
  le_antisymm (Finset.sup_le fun i _ => Finset.le_sup (f := f) (Finset.mem_range.mpr i.isLt))
    (Finset.sup_le fun i hi => Finset.le_sup (f := fun i : Fin n => f i.val) (Finset.mem_univ ⟨i, Finset.mem_range.mp hi⟩))
theorem inf_fin {n : ℕ} (f : ℕ → EReal) : (Finset.univ : Finset (Fin n)).inf (fun i => f i.val) = (Finset.range n).inf f :=
  le_antisymm (Finset.le_inf fun i hi => Finset.inf_le (f := fun i : Fin n => f i.val) (Finset.mem_univ ⟨i, Finset.mem_range.mp hi⟩))
    (Finset.le_inf fun i _ => Finset.inf_le (f := f) (Finset.mem_range.mpr i.isLt))

theorem sup_64 (f : ℕ → EReal) :
    (Finset.range 8).sup (fun t => (Finset.range 8).sup fun t' => f (8 * t' + t)) = (Finset.range 64).sup f :=
  le_antisymm (Finset.sup_le fun t ht => Finset.sup_le fun t' ht' => Finset.le_sup (f := f) (by
      have := Finset.mem_range.mp ht; have := Finset.mem_range.mp ht'; exact Finset.mem_range.mpr (by omega)))
    (Finset.sup_le fun i hi => by
      have := Finset.mem_range.mp hi
      refine le_trans ?_ (Finset.le_sup (f := fun t => (Finset.range 8).sup fun t' => f (8 * t' + t))
        (Finset.mem_range.mpr (by omega : i % 8 < 8)))
      refine le_trans (le_of_eq (congrArg f (by omega : i = 8 * (i / 8) + i % 8))) (Finset.le_sup (f := fun t' => f (8 * t' + i % 8))
        (Finset.mem_range.mpr (by omega : i / 8 < 8))))
theorem inf_64 (f : ℕ → EReal) :
    (Finset.range 8).inf (fun t => (Finset.range 8).inf fun t' => f (8 * t' + t)) = (Finset.range 64).inf f :=
  le_antisymm (Finset.le_inf fun i hi => by
      have := Finset.mem_range.mp hi
      refine le_trans (Finset.inf_le (f := fun t => (Finset.range 8).inf fun t' => f (8 * t' + t))
        (Finset.mem_range.mpr (by omega : i % 8 < 8))) ?_
      refine le_trans (Finset.inf_le (f := fun t' => f (8 * t' + i % 8)) (Finset.mem_range.mpr (by omega : i / 8 < 8)))
        (le_of_eq (congrArg f (by omega : 8 * (i / 8) + i % 8 = i))))
    (Finset.le_inf fun t ht => Finset.le_inf fun t' ht' => Finset.inf_le (f := f) (by
      have := Finset.mem_range.mp ht; have := Finset.mem_range.mp ht'; exact Finset.mem_range.mpr (by omega)))

/-! ## Scalars -/

theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max

/-- A scale is positive. -/
theorem scale_pos {M m : EReal} (h : m ≤ M) : 0 < scale M m := by
  unfold scale
  split_ifs with e
  · exact zero_lt_one
  · have h1 : 0 < M - m := EReal.sub_pos.mpr (lt_of_le_of_ne h (Ne.symm e))
    have h15 : ((15 : ℝ) : EReal) ≠ 0 := by norm_num
    unfold Ideal.div
    rw [if_neg h15, widen_eq]
    refine EReal.mul_pos (EReal.mul_pos h1 (by exact_mod_cast (by norm_num : (0:ℝ) < 4097 / 4096))) ?_
    rw [← EReal.coe_inv]
    exact_mod_cast (by norm_num : (0:ℝ) < (15:ℝ)⁻¹)

theorem mn_le_mx (x : ℕ → EReal) (b : ℕ) : mn x b ≤ mx x b :=
  le_trans (Finset.inf_le (Finset.mem_range.mpr (by norm_num : 0 < 64)))
    (Finset.le_sup (f := fun i => x (64 * b + i)) (Finset.mem_range.mpr (by norm_num : 0 < 64)))

theorem s_pos (x : ℕ → EReal) (b : ℕ) : 0 < s x b := scale_pos (mn_le_mx x b)

/-- A rounded value is an infinity or an integer. -/
theorem rnd_cases (e : EReal) : rnd e = ⊥ ∨ rnd e = ⊤ ∨ ∃ i : ℤ, rnd e = ((i : ℝ) : EReal) := by
  induction e using EReal.rec with
  | bot => exact Or.inl rfl
  | top => exact Or.inr (Or.inl rfl)
  | coe r => exact Or.inr (Or.inr ⟨_, rfl⟩)

/-- An infinity or an integer, clipped to 0 … 15, is one of the sixteen integers. -/
theorem clip_nat {e : EReal} (h : e = ⊥ ∨ e = ⊤ ∨ ∃ i : ℤ, e = ((i : ℝ) : EReal)) :
    ∃ j : ℕ, j ≤ 15 ∧ min ((15 : ℝ) : EReal) (max 0 e) = ((j : ℝ) : EReal) := by
  rcases h with rfl | rfl | ⟨i, rfl⟩
  · exact ⟨0, by norm_num, by simp⟩
  · exact ⟨15, by norm_num, by simp⟩
  · refine ⟨(min 15 (max 0 i)).toNat, by omega, ?_⟩
    have h1 : (((min 15 (max 0 i)).toNat : ℝ)) = min 15 (max 0 (i : ℝ)) := by
      have : (((min 15 (max 0 i)).toNat : ℤ)) = min 15 (max 0 i) := Int.toNat_of_nonneg (by omega)
      rw [← Int.cast_natCast, this]; push_cast; rfl
    rw [h1, coe_min, coe_max]; rfl

theorem zero_nat (m s : EReal) : ∃ j : ℕ, j ≤ 15 ∧ zero m s = ((j : ℝ) : EReal) := clip_nat (rnd_cases _)

/-- A rounded value and a small integer add up to an infinity or an integer. -/
theorem rnd_add_cases (e : EReal) (j : ℕ) :
    rnd e + ((j : ℝ) : EReal) = ⊥ ∨ rnd e + ((j : ℝ) : EReal) = ⊤ ∨ ∃ i : ℤ, rnd e + ((j : ℝ) : EReal) = ((i : ℝ) : EReal) := by
  rcases rnd_cases e with h | h | ⟨i, h⟩ <;> rw [h]
  · exact Or.inl (EReal.bot_add _)
  · exact Or.inr (Or.inl (EReal.top_add_coe _))
  · exact Or.inr (Or.inr ⟨i + j, by push_cast; rfl⟩)

theorem level_nat (e s : EReal) {z : EReal} {j : ℕ} (hz : z = ((j : ℝ) : EReal)) :
    ∃ i : ℕ, i ≤ 15 ∧ level e s z = ((i : ℝ) : EReal) := by
  unfold level; rw [hz]; exact clip_nat (rnd_add_cases _ _)

/-- A level is a whole number from 0 to 15. -/
theorem u_nat (x : ℕ → EReal) (n : ℕ) : ∃ i : ℕ, i ≤ 15 ∧ u x n = ((i : ℝ) : EReal) := by
  obtain ⟨j, _, hj⟩ := zero_nat (mn x (n / 64)) (s x (n / 64))
  exact level_nat _ _ hj

/-- Clipping the centred level: `round − (7.5 − z)` clipped to ±7.5 is the level less 7.5. -/
theorem centred (e : EReal) {z : EReal} {j : ℕ} (hz : z = ((j : ℝ) : EReal)) :
    min ((7.5 : ℝ) : EReal) (max ((-7.5 : ℝ) : EReal) (rnd e - (((7.5 : ℝ) : EReal) - z)))
      = min ((15 : ℝ) : EReal) (max 0 (rnd e + z)) - ((7.5 : ℝ) : EReal) := by
  rw [hz, ← EReal.coe_sub]
  rcases rnd_cases e with h | h | ⟨i, h⟩ <;> rw [h]
  · rw [EReal.bot_sub, EReal.bot_add, max_bot_right, max_bot_right]
    rw [show (0 : EReal) = ((0 : ℝ) : EReal) from rfl, ← coe_min, ← coe_min, ← EReal.coe_sub]
    norm_num
  · rw [EReal.top_sub_coe, EReal.top_add_coe, max_top_right, max_top_right, min_top_right, min_top_right, ← EReal.coe_sub]
    norm_num
  · rw [← EReal.coe_sub, ← EReal.coe_add, show (0 : EReal) = ((0 : ℝ) : EReal) from rfl, ← coe_max, ← coe_max,
      ← coe_min, ← coe_min, ← EReal.coe_sub]
    congr 1
    simp only [min_def, max_def]
    split_ifs <;> linarith

/-- The reciprocal of a positive scale is finite. -/
theorem inv_finite {s : EReal} (h : 0 < s) : ∃ r : ℝ, Ideal.div 1 s = (r : EReal) ∧ ∀ e, e * (r : EReal) = Ideal.div e s := by
  have h0 : s ≠ 0 := ne_of_gt h
  unfold Ideal.div
  simp only [if_neg h0, one_mul]
  induction s using EReal.rec with
  | bot => exact absurd h (by simp)
  | top => exact ⟨0, by simp, fun e => by simp⟩
  | coe r => exact ⟨r⁻¹, by rw [EReal.coe_inv], fun e => by rw [EReal.coe_inv]⟩

/-- Two levels packed as the kernel packs them: their centred values, weighted 1 and 16, with 127.5 added. -/
theorem pack_eq {a b : EReal} {i j : ℕ} (hi : i ≤ 15) (hj : j ≤ 15) (ha : a = ((i : ℝ) : EReal)) (hb : b = ((j : ℝ) : EReal)) :
    (a - ((7.5 : ℝ) : EReal)) * 1 + (b - ((7.5 : ℝ) : EReal)) * ((16 : ℝ) : EReal) + ((127.5 : ℝ) : EReal)
      = (((i + 16 * j : ℕ) : ℝ) : EReal) := by
  rw [ha, hb, mul_one, ← EReal.coe_sub, ← EReal.coe_sub, ← EReal.coe_mul, ← EReal.coe_add, ← EReal.coe_add]
  congr 1; push_cast; ring

/-- A small natural number, converted to a 32-bit integer. -/
theorem fptosi_nat {i : ℕ} (hi : i < 2 ^ 31) : Ideal.fptosi 32 (((i : ℝ)) : EReal) = BitVec.ofNat 32 i := by
  have h : Ideal.toIntClamped (-((2 ^ 31 : ℕ) : ℤ)) (((2 ^ 31 : ℕ) : ℤ) - 1) ((i : ℝ) : EReal) = (i : ℤ) := by
    rw [Ideal.toIntClamped_coe, if_pos (Nat.cast_nonneg i), Int.floor_natCast]; omega
  show BitVec.ofInt 32 (Ideal.toIntClamped (-((2 ^ 31 : ℕ) : ℤ)) (((2 ^ 31 : ℕ) : ℤ) - 1) ((i : ℝ) : EReal)) = _
  rw [h, BitVec.ofInt_natCast]

/-- The packed byte is the two levels side by side. -/
theorem pack_bits : ∀ i j : Fin 16,
    (BitVec.ofNat 32 (i.val + 16 * j.val)).setWidth 8 = ((BitVec.ofNat 32 i.val) ||| ((BitVec.ofNat 32 j.val) <<< 4)).setWidth 8 := by
  decide +kernel

end Cert.Proof.Spec

end
-- ==== Proof.TileValues.lean ====
/-
  What the pure parts of one trip compute, read at an index: the tile of elements, the largest and smallest of each half
  row, the scales and zero points, the shuffle that puts them in block order, and a tile's rounding and packing.

  A group is 512 rows of 128 elements, numbered `y 0`, `y 1`, …. Tile `a` of the group holds rows `128 a` to `128 a + 127`,
  the even rows first: its row `p` is row `128 a + ρ p` of the group. Half `h` of it is block `blk (2 a + h) p`.
-/
module

public import proofs.«01_k».proof.Proof.Spec
public import proofs.«01_k».proof.Proof.Gen.KernelIdeal.Skeleton
public import Idealize.ShloMosaic.Lib.Pointwise

@[expose] public section

noncomputable section

namespace Cert.Proof.KernelIdeal

open Cert.KernelIdeal Cert.KernelIdeal.Gen Idealize.ShloMosaic Cert.Proof

/-- The row of a tile that its row `p` holds: the even rows come first. -/
def ρ (p : ℕ) : ℕ := 2 * (p % 64) + p / 64
/-- The block, in the group, of half row `j` (tile `j / 2`, half `j % 2`) and tile row `p`. -/
def blk (j p : ℕ) : ℕ := 256 * (j / 2) + 2 * ρ p + j % 2

/-! ## The tile of elements -/

/-- A tile's elements from its gradient rows and its even and odd error rows. -/
theorem tileX_apply (y : ℕ → EReal) (a : ℕ) (v0 : EReal) (g : S128x128.Idx → EReal) (e0 e1 : S64x128.Idx → EReal)
    (h0 : ∀ (p : Fin 64) (l : Fin 128), v0 * g (ix2 ⟨2 * p.val, by omega⟩ l) + e0 (ix2 p l) = y (128 * (128 * a + 2 * p.val) + l.val))
    (h1 : ∀ (p : Fin 64) (l : Fin 128), v0 * g (ix2 ⟨2 * p.val + 1, by omega⟩ l) + e1 (ix2 p l) = y (128 * (128 * a + 2 * p.val + 1) + l.val))
    (p l : Fin 128) :
    k0_pay4 (F := Ideal) v0 g e0 e1 (ix2 p l) = y (128 * (128 * a + ρ p.val) + l.val) := by
  pointwise [k0_pay4]
  unfold ρ
  split_ifs with h h'
  · rw [h0 ⟨p.val, h⟩ l]; congr 1; dsimp only; omega
  all_goals first
    | exact absurd rfl ‹¬_›
    | skip
  · refine (h1 ⟨p.val - 64, by omega⟩ l).trans (congrArg y ?_); dsimp only; omega

/-! ## The largest and smallest of each half row -/

variable {F : FTy → Type} [FloatOps F]

/-- A tile with rows and columns exchanged. -/
def xT (x : FVec F S128x128 .f32) : FVec F S128x128 .f32 := transpose S128x128 [1, 0] x transposes_S128x128_p1_0_S128x128
/-- The eight columns of the first half, of each row, cut from the exchanged tile. -/
def half0 (x : FVec F S128x128 .f32) : FVec F S8x8x128 .f32 :=
  shapeCast S8x8x128 (extractStridedSlice S64x128 ![0, 0] (xT x) slices_S128x128_o0_0_S64x128) shapeCasts_S64x128_S8x8x128
def hMax0 (x : FVec F S128x128 .f32) : FVec F S8x128 .f32 := k0_pay18 (half0 x)
def hMin0 (x : FVec F S128x128 .f32) : FVec F S8x128 .f32 := k0_pay19 (half0 x)
def hMax1 (x : FVec F S128x128 .f32) : FVec F S8x128 .f32 := k0_pay12 (xT x)
def hMin1 (x : FVec F S128x128 .f32) : FVec F S8x128 .f32 := k0_pay13 (xT x)

section Halves
variable (y : ℕ → EReal) (a : ℕ) (x : FVec Ideal S128x128 .f32)
  (hx : ∀ p l : Fin 128, x (ix2 p l) = y (128 * (128 * a + ρ p.val) + l.val)) (t : Fin 8) (p : Fin 128)
include hx

theorem hMax0_apply : hMax0 x (ix2 t p) = (Finset.range 8).sup fun t' => y (64 * blk (2 * a) p.val + (8 * t' + t.val)) := by
  pointwise [hMax0, half0, xT, k0_pay18]
  rw [Spec.ofBits_bot, ← Spec.sup_fin]
  refine Finset.sup_congr rfl fun i _ => ?_
  rw [hx]; unfold blk ρ; congr 1; dsimp only; omega
theorem hMin0_apply : hMin0 x (ix2 t p) = (Finset.range 8).inf fun t' => y (64 * blk (2 * a) p.val + (8 * t' + t.val)) := by
  pointwise [hMin0, half0, xT, k0_pay19]
  rw [Spec.ofBits_top, ← Spec.inf_fin]
  refine Finset.inf_congr rfl fun i _ => ?_
  rw [hx]; unfold blk ρ; congr 1; dsimp only; omega
theorem hMax1_apply : hMax1 x (ix2 t p) = (Finset.range 8).sup fun t' => y (64 * blk (2 * a + 1) p.val + (8 * t' + t.val)) := by
  pointwise [hMax1, xT, k0_pay12, k0_pay11]
  rw [Spec.ofBits_bot, ← Spec.sup_fin]
  refine Finset.sup_congr rfl fun i _ => ?_
  rw [hx]; unfold blk ρ; congr 1; dsimp only; omega
theorem hMin1_apply : hMin1 x (ix2 t p) = (Finset.range 8).inf fun t' => y (64 * blk (2 * a + 1) p.val + (8 * t' + t.val)) := by
  pointwise [hMin1, xT, k0_pay13, k0_pay11]
  rw [Spec.ofBits_top, ← Spec.inf_fin]
  refine Finset.inf_congr rfl fun i _ => ?_
  rw [hx]; unfold blk ρ; congr 1; dsimp only; omega
end Halves

/-! ## The largest and smallest of each block -/

theorem sup_8 (g : ℕ → EReal) : (Finset.range 8).sup g
    = max (max (max (max (max (max (max (g 0) (g 1)) (g 2)) (g 3)) (g 4)) (g 5)) (g 6)) (g 7) := by
  simp only [Finset.range_add_one, Finset.range_zero, Finset.sup_insert, Finset.sup_empty, sup_bot_eq]
  ac_rfl
theorem inf_8 (g : ℕ → EReal) : (Finset.range 8).inf g
    = min (min (min (min (min (min (min (g 0) (g 1)) (g 2)) (g 3)) (g 4)) (g 5)) (g 6)) (g 7) := by
  simp only [Finset.range_add_one, Finset.range_zero, Finset.inf_insert, Finset.inf_empty, inf_top_eq]
  ac_rfl

section Blocks
variable (y : ℕ → EReal) (r : Fin 8 → FVec Ideal S8x128 .f32) (j : Fin 8) (p : Fin 128)

/-- The largest of a block, from its eight rows of partial maxima. -/
theorem max_apply (hr : ∀ t : Fin 8, r t (ix2 j p) = (Finset.range 8).sup fun t' => y (64 * blk j.val p.val + (8 * t' + t.val))) :
    k0_pay45 (F := Ideal) (r 0) (r 1) (r 2) (r 3) (r 4) (r 5) (r 6) (r 7) (ix2 j p) = Spec.mx y (blk j.val p.val) := by
  pointwise [k0_pay45]
  unfold Spec.mx
  rw [← Spec.sup_64 (fun i => y (64 * blk j.val p.val + i)), sup_8]
  rw [hr, hr, hr, hr, hr, hr, hr, hr]; rfl
/-- The smallest of a block, from its eight rows of partial minima. -/
theorem min_apply (hr : ∀ t : Fin 8, r t (ix2 j p) = (Finset.range 8).inf fun t' => y (64 * blk j.val p.val + (8 * t' + t.val))) :
    k0_pay47 (F := Ideal) (r 6) (r 7) (k0_pay46 (r 0) (r 1) (r 2) (r 3) (r 4) (r 5)) (ix2 j p) = Spec.mn y (blk j.val p.val) := by
  pointwise [k0_pay46, k0_pay47]
  unfold Spec.mn
  rw [← Spec.inf_64 (fun i => y (64 * blk j.val p.val + i)), inf_8]
  rw [hr, hr, hr, hr, hr, hr, hr, hr]; rfl
end Blocks

/-! ## The scale and the zero point of each block -/

section Scales
variable (y : ℕ → EReal) (M m6 m7 m5 : FVec Ideal S8x128 .f32) (j : Fin 8) (p : Fin 128)
  (hM : M (ix2 j p) = Spec.mx y (blk j.val p.val)) (hm : k0_pay47 m6 m7 m5 (ix2 j p) = Spec.mn y (blk j.val p.val))
include hM hm

theorem s_apply : k0_pay48 M m6 m7 m5 (ix2 j p) = Spec.s y (blk j.val p.val) := by
  pointwise [k0_pay48]
  rw [hM, hm, Spec.ofBits_15]; rfl
theorem z_apply : k0_pay49 M m6 m7 m5 (ix2 j p) = Spec.z y (blk j.val p.val) := by
  pointwise [k0_pay49]
  rw [hm, s_apply y M m6 m7 m5 j p hM hm, Spec.ofBits_15, zero_sub]; rfl
theorem inv_apply : k0_pay50 M m6 m7 m5 (ix2 j p) = Ideal.div 1 (Spec.s y (blk j.val p.val)) := by
  pointwise [k0_pay50]
  rw [s_apply y M m6 m7 m5 j p hM hm, show (Named.named κ "inv_max" 2137108966#32 : Ideal .f32) = (⊤ : EReal) from rfl]
  exact min_eq_left le_top
theorem inv_sub_self : k0_pay50 M m6 m7 m5 (ix2 j p) - k0_pay50 M m6 m7 m5 (ix2 j p) = (0 : EReal) := by
  rw [inv_apply y M m6 m7 m5 j p hM hm]
  obtain ⟨r, hr, -⟩ := Spec.inv_finite (Spec.s_pos y (blk j.val p.val))
  rw [hr, ← EReal.coe_sub, sub_self]; rfl
theorem mid_apply : k0_pay53 M m6 m7 m5 (ix2 j p) = 0 := by
  pointwise [k0_pay53, k0_pay52, k0_pay51]
  exact inv_sub_self y M m6 m7 m5 j p hM hm
theorem low_apply : k0_pay54 M m6 m7 m5 (ix2 j p) = 0 := by
  pointwise [k0_pay54, k0_pay53, k0_pay52, k0_pay51]
  rw [inv_sub_self y M m6 m7 m5 j p hM hm, sub_zero]
theorem c_apply : k0_pay55 M m6 m7 m5 (ix2 j p) = ((7.5 : ℝ) : EReal) - Spec.z y (blk j.val p.val) := by
  pointwise [k0_pay55]
  rw [z_apply y M m6 m7 m5 j p hM hm, Spec.ofBits_7_5]
end Scales

/-! ## The shuffle into block order -/

/-- The sublane and lane numbers. -/
def sub8 : IVec S8x128 32 := iota .tc S8x128 32 [0] iota_S8x128_d0_w32
def lane8 : IVec S8x128 32 := iota .tc S8x128 32 [1] iota_S8x128_d1_w32
/-- The lane index of the gathers, with the fix-up of negative indices. -/
def gidx : IVec S8x128 32 := shapeCast S8x128 (shapeCast S8x128x1 (select (cmpi .slt k0_pay62 (broadcast S8x128 0#32)) (addi k0_pay62 (broadcast S8x128 128#32)) k0_pay62) shapeCasts_S8x128_S8x128x1) shapeCasts_S8x128x1_S8x128
/-- An array indexed by half row and tile row, put in the order of the blocks. -/
def shuf {α : Type} (w : S8x128.Idx → α) : S8x128.Idx → α :=
  shapeCast S8x128 (select (cmpi .eq (andi lane8 (broadcast S8x128 1#32)) (andi sub8 (broadcast S8x128 1#32))) (dynamicGather 1 w gidx)
    (dynamicGather 1 (select (cmpi .eq (andi sub8 (broadcast S8x128 1#32)) (broadcast S8x128 0#32)) (dynamicRotate 0 7#32 none w rotates_S8x128_d0)
      (dynamicRotate 0 1#32 none w rotates_S8x128_d0)) gidx)) shapeCasts_S8x128_S8x128

/-- The lane index as a number. -/
theorem gidx_word : ∀ (s : Fin 8) (l : Fin 128),
    (Scalar.select (IntOp.cmpi CmpIPredicate.slt (IntOp.addi (IntOp.addi (IntOp.muli (IntOp.andi (IntOp.shrsi ArithUnit.vector (BitVec.ofNat 32 l.val) 1#32) 1#32) 64#32) (IntOp.muli (IntOp.andi (BitVec.ofNat 32 s.val) 1#32) 32#32)) (IntOp.shrsi ArithUnit.vector (BitVec.ofNat 32 l.val) 2#32)) 0#32)
      (IntOp.addi (IntOp.addi (IntOp.addi (IntOp.muli (IntOp.andi (IntOp.shrsi ArithUnit.vector (BitVec.ofNat 32 l.val) 1#32) 1#32) 64#32) (IntOp.muli (IntOp.andi (BitVec.ofNat 32 s.val) 1#32) 32#32)) (IntOp.shrsi ArithUnit.vector (BitVec.ofNat 32 l.val) 2#32)) 128#32)
      (IntOp.addi (IntOp.addi (IntOp.muli (IntOp.andi (IntOp.shrsi ArithUnit.vector (BitVec.ofNat 32 l.val) 1#32) 1#32) 64#32) (IntOp.muli (IntOp.andi (BitVec.ofNat 32 s.val) 1#32) 32#32)) (IntOp.shrsi ArithUnit.vector (BitVec.ofNat 32 l.val) 2#32))).toNat % 128
    = 64 * (l.val / 2 % 2) + 32 * (s.val % 2) + l.val / 4 := by decide +kernel
theorem parity_word : ∀ (s : Fin 8) (l : Fin 128),
    IntOp.cmpi CmpIPredicate.eq (IntOp.andi (BitVec.ofNat 32 l.val) 1#32) (IntOp.andi (BitVec.ofNat 32 s.val) 1#32)
    = if l.val % 2 = s.val % 2 then 1#1 else 0#1 := by decide +kernel
theorem even_word : ∀ s : Fin 8,
    IntOp.cmpi CmpIPredicate.eq (IntOp.andi (BitVec.ofNat 32 s.val) 1#32) 0#32 = if s.val % 2 = 0 then 1#1 else 0#1 := by decide +kernel

theorem same_num : ∀ (s : Fin 8) (l : Fin 128), l.val % 2 = s.val % 2 →
    blk s.val (64 * (l.val / 2 % 2) + 32 * (s.val % 2) + l.val / 4) = 128 * s.val + l.val := by decide +kernel
theorem next_num : ∀ (s : Fin 8) (l : Fin 128), l.val % 2 ≠ s.val % 2 → s.val % 2 = 0 →
    blk ((s.val + 8 - 7) % 8) (64 * (l.val / 2 % 2) + 32 * (s.val % 2) + l.val / 4) = 128 * s.val + l.val := by decide +kernel
theorem prev_num : ∀ (s : Fin 8) (l : Fin 128), l.val % 2 ≠ s.val % 2 → s.val % 2 ≠ 0 →
    blk ((s.val + 8 - 1) % 8) (64 * (l.val / 2 % 2) + 32 * (s.val % 2) + l.val / 4) = 128 * s.val + l.val := by decide +kernel

/-- The shuffle puts the block `128 s + l` of the group at sublane `s`, lane `l`. -/
theorem shuf_apply {α : Type} (w : S8x128.Idx → α) (G : ℕ → α) (hw : ∀ (j : Fin 8) (p : Fin 128), w (ix2 j p) = G (blk j.val p.val))
    (s : Fin 8) (l : Fin 128) : shuf w (ix2 s l) = G (128 * s.val + l.val) := by
  pointwise [shuf, gidx, k0_pay62, sub8, lane8]
  rw [hw, hw, hw, parity_word, even_word]
  dsimp only
  rw [gidx_word]
  by_cases h1 : l.val % 2 = s.val % 2
  · rw [if_pos h1]; exact congrArg G (same_num s l h1)
  · rw [if_neg h1]
    by_cases h2 : s.val % 2 = 0
    · rw [if_pos h2]; exact congrArg G (next_num s l h1 h2)
    · rw [if_neg h2]; exact congrArg G (prev_num s l h1 h2)

/-! ## The rounding of a tile -/

/-- The spreading matrix: row `8 h + q` of half `h`: the scale on the first 128 columns, the three parts of its reciprocal on the
    next, the centre on the last, each on the half's own 64 columns. -/
def IsSpread (v1 : S16x384.Idx → EReal) : Prop := ∀ (k : Fin 16) (o : Fin 384), v1 (ix2 k o) =
  if k.val / 8 = o.val % 128 / 64 ∧ (k.val % 8 = 0 ∧ o.val / 128 = 0 ∨ (1 ≤ k.val % 8 ∧ k.val % 8 ≤ 3) ∧ o.val / 128 = 1 ∨ k.val % 8 = 4 ∧ o.val / 128 = 2) then 1 else 0
/-- The packing matrix: columns `2 m` and `2 m + 1` go to byte `m`, the second sixteenfold. -/
def IsPack (v2 : S256x128.Idx → EReal) : Prop := ∀ (k : Fin 256) (m : Fin 128), v2 (ix2 k m) =
  if k.val = 2 * m.val then 1 else if k.val = 2 * m.val + 1 then ((16 : ℝ) : EReal) else 0

section Round
variable (v1 : S16x384.Idx → EReal) (hv1 : IsSpread v1) (q0 q1 : S8x128.Idx → EReal) (p : Fin 128)
include hv1

/-- The spread of a tile's parts: column `o` of row `p`. -/
theorem spread_apply (o : Fin 384) : k0_pay72 (F := Ideal) v1 q0 q1 (ix2 p o) =
    (fun q : S8x128.Idx → EReal => if o.val / 128 = 0 then q (ix2 0 p) else if o.val / 128 = 1 then q (ix2 1 p) + q (ix2 2 p) + q (ix2 3 p) else q (ix2 4 p))
      (if o.val % 128 / 64 = 0 then q0 else q1) := by
  pointwise [k0_pay72]
  have ho := o.isLt
  simp only [Fin.sum_univ_eight, hv1 _ _, Fin.isValue, Fin.val_zero, Fin.val_one, Fin.val_two, show ((3 : Fin 8) : ℕ) = 3 from rfl,
    show ((4 : Fin 8) : ℕ) = 4 from rfl, show ((5 : Fin 8) : ℕ) = 5 from rfl, show ((6 : Fin 8) : ℕ) = 6 from rfl, show ((7 : Fin 8) : ℕ) = 7 from rfl]
  have hh : o.val % 128 / 64 = 0 ∨ o.val % 128 / 64 = 1 := by omega
  have hw : o.val / 128 = 0 ∨ o.val / 128 = 1 ∨ o.val / 128 = 2 := by omega
  generalize o.val % 128 / 64 = h at *
  generalize o.val / 128 = w at *
  rcases hh with rfl | rfl <;> rcases hw with rfl | rfl | rfl <;> norm_num

/-- The parts of half row `j`: its rows 0 to 4 are the scale, the reciprocal of the scale, zero, zero and the centre. -/
def IsParts (y : ℕ → EReal) (j : ℕ) (q : S8x128.Idx → EReal) : Prop := ∀ p : Fin 128,
  q (ix2 0 p) = Spec.s y (blk j p.val) ∧ q (ix2 1 p) = Ideal.div 1 (Spec.s y (blk j p.val)) ∧ q (ix2 2 p) = 0 ∧ q (ix2 3 p) = 0
    ∧ q (ix2 4 p) = ((7.5 : ℝ) : EReal) - Spec.z y (blk j p.val)

variable (y : ℕ → EReal) (a : ℕ) (x : S1x128x128.Idx → EReal) (h0 : IsParts y (2 * a) q0) (h1 : IsParts y (2 * a + 1) q1) (l : Fin 128)
include h0 h1

theorem scale_apply : k0_pay72 (F := Ideal) v1 q0 q1 (ix2 p ⟨l.val, by omega⟩) = Spec.s y ((128 * (128 * a + ρ p.val) + l.val) / 64) := by
  rw [spread_apply v1 hv1]
  have hl := l.isLt
  dsimp only
  rw [if_pos (by omega)]
  split_ifs with h
  · rw [(h0 p).1]; unfold blk; congr 1; omega
  · rw [(h1 p).1]; unfold blk; congr 1; omega
theorem recip_apply : k0_pay72 (F := Ideal) v1 q0 q1 (ix2 p ⟨128 + l.val, by omega⟩) = Ideal.div 1 (Spec.s y ((128 * (128 * a + ρ p.val) + l.val) / 64)) := by
  rw [spread_apply v1 hv1]
  have hl := l.isLt
  dsimp only
  rw [if_neg (by omega), if_pos (by omega)]
  split_ifs with h
  · rw [(h0 p).2.1, (h0 p).2.2.1, (h0 p).2.2.2.1, add_zero, add_zero]; unfold blk; congr 2; omega
  · rw [(h1 p).2.1, (h1 p).2.2.1, (h1 p).2.2.2.1, add_zero, add_zero]; unfold blk; congr 2; omega
theorem centre_apply : k0_pay72 (F := Ideal) v1 q0 q1 (ix2 p ⟨256 + l.val, by omega⟩) = ((7.5 : ℝ) : EReal) - Spec.z y ((128 * (128 * a + ρ p.val) + l.val) / 64) := by
  rw [spread_apply v1 hv1]
  have hl := l.isLt
  dsimp only
  rw [if_neg (by omega), if_neg (by omega)]
  split_ifs with h
  · rw [(h0 p).2.2.2.2]; unfold blk; congr 2; omega
  · rw [(h1 p).2.2.2.2]; unfold blk; congr 2; omega

variable (hx : ∀ p l : Fin 128, x (ix3 0 p l) = y (128 * (128 * a + ρ p.val) + l.val))
include hx

/-- The centred level of a tile's element. -/
theorem level_apply : k0_pay75 (F := Ideal) v1 q0 q1 x (ix2 p l) = Spec.u y (128 * (128 * a + ρ p.val) + l.val) - ((7.5 : ℝ) : EReal) := by
  pointwise [k0_pay75, k0_pay74, k0_pay73]
  rw [recip_apply v1 hv1 q0 q1 p y a h0 h1 l, centre_apply v1 hv1 q0 q1 p y a h0 h1 l, hx]
  obtain ⟨r, hr, hr'⟩ := Spec.inv_finite (Spec.s_pos y ((128 * (128 * a + ρ p.val) + l.val) / 64))
  obtain ⟨j, _, hj⟩ := Spec.zero_nat (Spec.mn y ((128 * (128 * a + ρ p.val) + l.val) / 64)) (Spec.s y ((128 * (128 * a + ρ p.val) + l.val) / 64))
  rw [hr, hr', Spec.ofBits_7_5, Spec.ofBits_neg_7_5]
  exact Spec.centred _ hj

/-- The rounding error of a tile's element. -/
theorem error_apply : k0_pay76 (F := Ideal) v1 q0 q1 x (ix2 p l) = Spec.err y (128 * (128 * a + ρ p.val) + l.val) := by
  pointwise [k0_pay76, k0_pay74, k0_pay73]
  rw [level_apply v1 hv1 q0 q1 p y a x h0 h1 l hx, scale_apply v1 hv1 q0 q1 p y a h0 h1 l, centre_apply v1 hv1 q0 q1 p y a h0 h1 l, hx]
  obtain ⟨j, _, hj⟩ := Spec.zero_nat (Spec.mn y ((128 * (128 * a + ρ p.val) + l.val) / 64)) (Spec.s y ((128 * (128 * a + ρ p.val) + l.val) / 64))
  obtain ⟨i, _, hi⟩ := Spec.level_nat (y (128 * (128 * a + ρ p.val) + l.val)) (Spec.s y ((128 * (128 * a + ρ p.val) + l.val) / 64)) hj
  unfold Spec.err Spec.u Spec.z
  rw [hi, hj]
  congr 2
  norm_cast
  push_cast
  ring

omit hv1 h0 h1 hx in
/-- A row times a half of the packing matrix: the two columns of byte `l`, if the half holds them. -/
theorem pack_sum (f : Fin 128 → EReal) (v2 : S256x128.Idx → EReal) (hv2 : IsPack v2) (c : ℕ) (hc : c = 0 ∨ c = 128) :
    ∑ k : Fin 128, f k * v2 (ix2 ⟨c + k.val, by omega⟩ l)
      = if h : 2 * l.val / 128 = c / 128 then f ⟨2 * l.val - c, by omega⟩ * 1 + f ⟨2 * l.val + 1 - c, by omega⟩ * ((16 : ℝ) : EReal) else 0 := by
  split_ifs with h
  · rw [Finset.sum_eq_add (⟨2 * l.val - c, by omega⟩ : Fin 128) ⟨2 * l.val + 1 - c, by omega⟩]
    · rw [hv2, hv2, if_pos (by dsimp only; omega), if_neg (by dsimp only; omega), if_pos (by dsimp only; omega)]
    · rw [Ne, Fin.mk.injEq]; omega
    · rintro k - ⟨n1, n2⟩
      rw [Ne, Fin.ext_iff] at n1 n2
      dsimp only at n1 n2
      rw [hv2, if_neg (by dsimp only; omega), if_neg (by dsimp only; omega), mul_zero]
    · intro h; exact absurd (Finset.mem_univ _) h
    · intro h; exact absurd (Finset.mem_univ _) h
  · refine Finset.sum_eq_zero fun k _ => ?_
    rw [hv2, if_neg (by dsimp only; omega), if_neg (by dsimp only; omega), mul_zero]

/-- The bytes of a tile. -/
theorem byte_apply (v2 : S256x128.Idx → EReal) (hv2 : IsPack v2) (r : Fin 64) :
    k0_pay80 (F := Ideal) v2 (k0_pay79 v1 q0 q1 x) (constant S64x128 .f32 0x00000000#32) (ix2 r l) = Spec.code y (128 * (64 * a + r.val) + l.val) := by
  pointwise [k0_pay80, k0_pay79]
  have e0 := pack_sum l (fun k => k0_pay75 (F := Ideal) v1 q0 q1 x (ix2 ⟨r.val, by omega⟩ k)) v2 hv2 0 (Or.inl rfl)
  have e1 := pack_sum l (fun k => k0_pay75 (F := Ideal) v1 q0 q1 x (ix2 ⟨64 + r.val, by omega⟩ k)) v2 hv2 128 (Or.inr rfl)
  simp only [Nat.zero_add] at e0
  rw [e0, e1]
  simp only [level_apply v1 hv1 q0 q1 _ y a x h0 h1 _ hx, Spec.ofBits_127_5]
  have hr := r.isLt
  have hl := l.isLt
  have key : ∀ n n', n = 2 * (128 * (64 * a + r.val) + l.val) → n' = 2 * (128 * (64 * a + r.val) + l.val) + 1 →
      BitVec.setWidth 8 (Ideal.fptosi 32 ((Spec.u y n - ((7.5 : ℝ) : EReal)) * 1 + (Spec.u y n' - ((7.5 : ℝ) : EReal)) * ((16 : ℝ) : EReal) + ((127.5 : ℝ) : EReal)))
        = Spec.code y (128 * (64 * a + r.val) + l.val) := by
    rintro _ _ rfl rfl
    obtain ⟨i, hi, ei⟩ := Spec.u_nat y (2 * (128 * (64 * a + r.val) + l.val))
    obtain ⟨j, hj, ej⟩ := Spec.u_nat y (2 * (128 * (64 * a + r.val) + l.val) + 1)
    rw [Spec.pack_eq hi hj ei ej, Spec.fptosi_nat (by omega)]
    unfold Spec.code
    rw [ei, ej, Spec.fptosi_nat (by omega), Spec.fptosi_nat (by omega)]
    exact Spec.pack_bits ⟨i, by omega⟩ ⟨j, by omega⟩
  by_cases h : l.val < 64
  · rw [dif_pos (by omega), dif_neg (by omega), add_zero]
    refine key _ _ ?_ ?_ <;> unfold ρ <;> omega
  · rw [dif_neg (by omega), dif_pos (by omega), zero_add]
    refine key _ _ ?_ ?_ <;> unfold ρ <;> omega

end Round

end Cert.Proof.KernelIdeal

end
-- ==== Proof.TripStores.lean ====
/-
  The stores that one trip leaves in the result buffers and in the two arrays carried over the trips, spelt out: the four
  tiles, their partial maxima and minima, the scales and zero points, and each tile's rounding and packing.
-/
module

public import proofs.«01_k».proof.Proof.Trip
public import proofs.«01_k».proof.Proof.TileValues

@[expose] public section

noncomputable section

namespace Cert.Proof.KernelIdeal

open Cert.KernelIdeal Cert.KernelIdeal.Gen
open Idealize.ShloMosaic Idealize.ShloMosaic.TcCoe

variable {F : FTy → Type} [FloatOps F] [Named F]

section Stores

variable (c : Dev nD) (arg4 : Memref sig .tc .vmem S4096x128 .bf16) (arg5 : Memref sig .tc .vmem S4096x128 .f32) (arg10 : Memref sig .tc .vmem S4x128x128 .f32) (arg11 : Memref sig .tc .vmem S96x128 .f32) (arg12 : Memref sig .tc .vmem S96x128 .f32) (arg13 : Memref sig .tc .vmem S96x128 .f32)
  (v0 : F .f32) (v1 : Vec F S16x384 .bf16) (v2 : Vec F S256x128 .bf16)
  (k : Fin k0_t1_loop.trips) (f4 : Bf (F := F) c arg4) (f5 : Bf (F := F) c arg5) (f13 : Bf (F := F) c arg13)

/-! ## The tiles -/

/-- Tile `a` of the trip: its gradient rows and its even and odd error rows. -/
def gRows (a : Fin 4) : Vec F S128x128 .bf16 := arg4.view.readAt (Elt F) (Rect.unit (s := S4096x128) (k0_off1 k (BitVec.ofNat 32 (128 * a.val))) S128x128.size (k0_off1_inb k a)).toLoadRect f4
def eEven (a : Fin 4) : Vec F S64x128 .f32 := arg5.view.readAt (Elt F) (⟨k0_off2 k (BitVec.ofNat 32 (128 * a.val)), S64x128.size, ![2, 1], k0_off2_inb k a⟩ : LoadRect S4096x128) f5
def eOdd (a : Fin 4) : Vec F S64x128 .f32 := arg5.view.readAt (Elt F) (⟨k0_off3 k (BitVec.ofNat 32 (128 * a.val)), S64x128.size, ![2, 1], k0_off3_inb k a⟩ : LoadRect S4096x128) f5
def tile (a : Fin 4) : FVec F S128x128 .f32 := k0_pay4 v0 (gRows c arg4 k f4 a) (eEven c arg5 k f5 a) (eOdd c arg5 k f5 a)

/-! ## The partial maxima and minima, laid at pitch 12 -/

/-- Eight rows stored at pitch 12 from row `o`. -/
def pitched (o : ℕ) (h : ∀ a, S8x128.size a = 0 ∨ (![o, 0] : Fin 2 → Nat) a + (![12, 1] : Fin 2 → Nat) a * (S8x128.size a - 1) < S96x128.size a)
    (w : FVec F S8x128 .f32) : View.Piece (Elt F) S96x128 .f32 := ⟨⟨⟨![o, 0], S8x128.size, ![12, 1], h⟩, spos_12_1⟩, w⟩

/-- The stores of eight arrays, one a half row: `h0` of a tile is its first half's, `h1` its second's. -/
def halfRows (h0 h1 : FVec F S128x128 .f32 → FVec F S8x128 .f32) (x : Fin 4 → FVec F S128x128 .f32) : List (View.Piece (Elt F) S96x128 .f32) :=
  [pitched 7 inb_S96x128_S8x128_7_0_s_12_1 (h1 (x 3)), pitched 6 inb_S96x128_S8x128_6_0_s_12_1 (h0 (x 3)),
   pitched 5 inb_S96x128_S8x128_5_0_s_12_1 (h1 (x 2)), pitched 4 inb_S96x128_S8x128_4_0_s_12_1 (h0 (x 2)),
   pitched 3 inb_S96x128_S8x128_3_0_s_12_1 (h1 (x 1)), pitched 2 inb_S96x128_S8x128_2_0_s_12_1 (h0 (x 1)),
   pitched 1 inb_S96x128_S8x128_1_0_s_12_1 (h1 (x 0)), pitched 0 inb_S96x128_S8x128_0_0_s_12_1 (h0 (x 0))]

theorem inb_rows (t : Fin 8) : ∀ a, (![12 * t.val, 0] : Fin 2 → Nat) a + S8x128.size a ≤ S96x128.size a := by
  revert t; decide

/-- Row `t` of every half row. -/
def rowMax (t : Fin 8) : FVec F S8x128 .f32 := arg11.view.readCov (halfRows hMax0 hMax1 (tile c arg4 arg5 v0 k f4 f5)) (Rect.unit (s := S96x128) ![12 * t.val, 0] S8x128.size (inb_rows t)).toLoadRect
def rowMin (t : Fin 8) : FVec F S8x128 .f32 := arg12.view.readCov (halfRows hMin0 hMin1 (tile c arg4 arg5 v0 k f4 f5)) (Rect.unit (s := S96x128) ![12 * t.val, 0] S8x128.size (inb_rows t)).toLoadRect

/-! ## The scales and zero points -/

def bMax : FVec F S8x128 .f32 := k0_pay45 (rowMax c arg4 arg5 arg11 v0 k f4 f5 0) (rowMax c arg4 arg5 arg11 v0 k f4 f5 1) (rowMax c arg4 arg5 arg11 v0 k f4 f5 2) (rowMax c arg4 arg5 arg11 v0 k f4 f5 3) (rowMax c arg4 arg5 arg11 v0 k f4 f5 4) (rowMax c arg4 arg5 arg11 v0 k f4 f5 5) (rowMax c arg4 arg5 arg11 v0 k f4 f5 6) (rowMax c arg4 arg5 arg11 v0 k f4 f5 7)
def bMin5 : FVec F S8x128 .f32 := k0_pay46 (rowMin c arg4 arg5 arg12 v0 k f4 f5 0) (rowMin c arg4 arg5 arg12 v0 k f4 f5 1) (rowMin c arg4 arg5 arg12 v0 k f4 f5 2) (rowMin c arg4 arg5 arg12 v0 k f4 f5 3) (rowMin c arg4 arg5 arg12 v0 k f4 f5 4) (rowMin c arg4 arg5 arg12 v0 k f4 f5 5)
/-- A pure part of the trip applied to the largest and smallest. -/
def onBlocks {α : Type} (g : FVec F S8x128 .f32 → FVec F S8x128 .f32 → FVec F S8x128 .f32 → FVec F S8x128 .f32 → α) : α :=
  g (bMax c arg4 arg5 arg11 v0 k f4 f5) (rowMin c arg4 arg5 arg12 v0 k f4 f5 6) (rowMin c arg4 arg5 arg12 v0 k f4 f5 7) (bMin5 c arg4 arg5 arg12 v0 k f4 f5)

def partStores : List (View.Piece (Elt F) S96x128 .f32) :=
  [pitched 4 inb_S96x128_S8x128_4_0_s_12_1 (k0_pay60 (onBlocks c arg4 arg5 arg11 arg12 v0 k f4 f5 k0_pay55)), pitched 3 inb_S96x128_S8x128_3_0_s_12_1 (k0_pay59 (onBlocks c arg4 arg5 arg11 arg12 v0 k f4 f5 k0_pay54)),
   pitched 2 inb_S96x128_S8x128_2_0_s_12_1 (onBlocks c arg4 arg5 arg11 arg12 v0 k f4 f5 k0_pay58), pitched 1 inb_S96x128_S8x128_1_0_s_12_1 (onBlocks c arg4 arg5 arg11 arg12 v0 k f4 f5 k0_pay57),
   pitched 0 inb_S96x128_S8x128_0_0_s_12_1 (onBlocks c arg4 arg5 arg11 arg12 v0 k f4 f5 k0_pay56)]

/-- The parts of half row `t`. -/
def parts (t : Fin 8) : Vec F S8x128 .f32 := arg13.view.readAt (Elt F) (Rect.unit (s := S96x128) ![12 * t.val, 0] S8x128.size (inb_rows t)).toLoadRect (arg13.view.writes (Elt F) f13 (partStores c arg4 arg5 arg11 arg12 v0 k f4 f5))

/-! ## The rounded tiles -/

def tileAt (a : Fin 4) (h : ∀ x, (![a.val, 0, 0] : Fin 3 → Nat) x + S1x128x128.size x ≤ S4x128x128.size x) : View.Piece (Elt F) S4x128x128 .f32 :=
  ⟨Rect.unit (s := S4x128x128) ![a.val, 0, 0] S1x128x128.size h, k0_pay5 v0 (gRows c arg4 k f4 a) (eEven c arg5 k f5 a) (eOdd c arg5 k f5 a)⟩
theorem inb_tile (a : Fin 4) : ∀ x, (![a.val, 0, 0] : Fin 3 → Nat) x + S1x128x128.size x ≤ S4x128x128.size x := by
  revert a; decide
def tileStores : List (View.Piece (Elt F) S4x128x128 .f32) :=
  [tileAt c arg4 arg5 v0 k f4 f5 3 (inb_tile 3), tileAt c arg4 arg5 v0 k f4 f5 2 (inb_tile 2), tileAt c arg4 arg5 v0 k f4 f5 1 (inb_tile 1), tileAt c arg4 arg5 v0 k f4 f5 0 (inb_tile 0)]
def tileBack (a : Fin 4) : Vec F S1x128x128 .f32 := arg10.view.readCov (tileStores c arg4 arg5 v0 k f4 f5) (Rect.unit (s := S4x128x128) ![a.val, 0, 0] S1x128x128.size (inb_tile a)).toLoadRect
/-- A pure part of the trip applied to tile `a` and the parts of its halves. -/
def onTile {α : Type} (a : Fin 4) (g : Vec F S16x384 .bf16 → Vec F S8x128 .f32 → Vec F S8x128 .f32 → Vec F S1x128x128 .f32 → α) : α :=
  g v1 (parts c arg4 arg5 arg11 arg12 arg13 v0 k f4 f5 f13 ⟨2 * a.val, by omega⟩) (parts c arg4 arg5 arg11 arg12 arg13 v0 k f4 f5 f13 ⟨2 * a.val + 1, by omega⟩) (tileBack c arg4 arg5 arg10 v0 k f4 f5 a)

/-! ## The stores -/

def errStore0 (a : Fin 4) : View.Piece (Elt F) S4096x128 .f32 := ⟨⟨⟨k0_off2 k (BitVec.ofNat 32 (128 * a.val)), S64x128.size, ![2, 1], k0_off2_inb k a⟩, spos_2_1⟩, onTile c arg4 arg5 arg10 arg11 arg12 arg13 v0 v1 k f4 f5 f13 a k0_pay77⟩
def errStore1 (a : Fin 4) : View.Piece (Elt F) S4096x128 .f32 := ⟨⟨⟨k0_off3 k (BitVec.ofNat 32 (128 * a.val)), S64x128.size, ![2, 1], k0_off3_inb k a⟩, spos_2_1⟩, onTile c arg4 arg5 arg10 arg11 arg12 arg13 v0 v1 k f4 f5 f13 a k0_pay78⟩
def errStores : List (View.Piece (Elt F) S4096x128 .f32) :=
  [errStore1 c arg4 arg5 arg10 arg11 arg12 arg13 v0 v1 k f4 f5 f13 3, errStore0 c arg4 arg5 arg10 arg11 arg12 arg13 v0 v1 k f4 f5 f13 3, errStore1 c arg4 arg5 arg10 arg11 arg12 arg13 v0 v1 k f4 f5 f13 2, errStore0 c arg4 arg5 arg10 arg11 arg12 arg13 v0 v1 k f4 f5 f13 2,
   errStore1 c arg4 arg5 arg10 arg11 arg12 arg13 v0 v1 k f4 f5 f13 1, errStore0 c arg4 arg5 arg10 arg11 arg12 arg13 v0 v1 k f4 f5 f13 1, errStore1 c arg4 arg5 arg10 arg11 arg12 arg13 v0 v1 k f4 f5 f13 0, errStore0 c arg4 arg5 arg10 arg11 arg12 arg13 v0 v1 k f4 f5 f13 0]
def byteStore (a : Fin 4) : View.Piece (Elt F) S2048x128 .i8 := ⟨Rect.unit (s := S2048x128) (k0_off5 k (BitVec.ofNat 32 (128 * a.val))) S64x128.size (k0_off5_inb k a),
  k0_pay80 v2 (onTile c arg4 arg5 arg10 arg11 arg12 arg13 v0 v1 k f4 f5 f13 a k0_pay79) (constant S64x128 .f32 0x00000000#32)⟩
def byteStores : List (View.Piece (Elt F) S2048x128 .i8) :=
  [byteStore c arg4 arg5 arg10 arg11 arg12 arg13 v0 v1 v2 k f4 f5 f13 3, byteStore c arg4 arg5 arg10 arg11 arg12 arg13 v0 v1 v2 k f4 f5 f13 2, byteStore c arg4 arg5 arg10 arg11 arg12 arg13 v0 v1 v2 k f4 f5 f13 1, byteStore c arg4 arg5 arg10 arg11 arg12 arg13 v0 v1 v2 k f4 f5 f13 0]
def zeroStore : View.Piece (Elt F) S64x128 .i32 := ⟨Rect.unit (s := S64x128) (k0_off4 k) S8x128.size (k0_off4_inb k), shuf (fptosi 32 (onBlocks c arg4 arg5 arg11 arg12 v0 k f4 f5 k0_pay49))⟩
def scaleStore : View.Piece (Elt F) S64x128 .f32 := ⟨Rect.unit (s := S64x128) (k0_off4 k) S8x128.size (k0_off4_inb k), shuf (onBlocks c arg4 arg5 arg11 arg12 v0 k f4 f5 k0_pay48)⟩

end Stores

section Eq
variable (c : Dev nD) (i : grid0.Coords) (arg1 : Memref sig .tc .smem S1x1 .f32) (harg1 : arg1.IsWhole) (arg2 : Memref sig .tc .vmem S16x384 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2048x128 .i8) (harg7 : arg7.IsWhole) (arg8 : Memref sig .tc .vmem S64x128 .bf16) (harg8 : arg8.IsWhole) (arg9 : Memref sig .tc .vmem S64x128 .i8) (harg9 : arg9.IsWhole) (arg10 : Memref sig .tc .vmem S4x128x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S64x128 .i32) (harg14 : arg14.IsWhole) (arg15 : Memref sig .tc .vmem S64x128 .f32) (harg15 : arg15.IsWhole)
  (v0 : F .f32) (v1 : Vec F S16x384 .bf16) (v2 : Vec F S256x128 .bf16)
  (k : Fin k0_t1_loop.trips) (f4 : Bf (F := F) c arg4) (f5 : Bf (F := F) c arg5) (f6 : Bf (F := F) c arg6) (f7 : Bf (F := F) c arg7) (f10 : Bf (F := F) c arg10) (f11 : Bf (F := F) c arg11) (f12 : Bf (F := F) c arg12) (f13 : Bf (F := F) c arg13) (f14 : Bf (F := F) c arg14) (f15 : Bf (F := F) c arg15)

set_option maxRecDepth 20000
set_option maxHeartbeats 0

/-- The stores of the run are these. -/
theorem run_stores : (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k f4 f5 f6 f7 f10 f11 f12 f13 f14 f15).1 = (errStores c arg4 arg5 arg10 arg11 arg12 arg13 v0 v1 k f4 f5 f13, byteStores c arg4 arg5 arg10 arg11 arg12 arg13 v0 v1 v2 k f4 f5 f13,
    [zeroStore c arg4 arg5 arg11 arg12 v0 k f4 f5], [scaleStore c arg4 arg5 arg11 arg12 v0 k f4 f5]) := rfl

end Eq

end Cert.Proof.KernelIdeal

end
-- ==== Proof.TripValues.lean ====
/-
  What one trip leaves, over the extended reals: if the elements of the rows of the block are numbered `Y 0`, `Y 1`, …, the
  trip's stores put the rounding errors, the bytes, the zero points and the scales of its 512 rows where they belong.
-/
module

public import proofs.«01_k».proof.Proof.TripStores
public import Idealize.ShloMosaic.Lib.Writes

@[expose] public section

noncomputable section

namespace Cert.Proof.KernelIdeal

open Cert.KernelIdeal Cert.KernelIdeal.Gen Cert.Proof
open Idealize.ShloMosaic Idealize.ShloMosaic.TcCoe

/-! ## Places of a box of rows -/

/-- Where a box of rows puts row `r`, lane `l`. -/
theorem idx_rows {n a : ℕ} (B : LoadRect ⟨2, ![n, 128]⟩) (o s : ℕ) (ho : B.off = ![o, 0]) (hsz : B.size = ![a, 128]) (h0 : B.stride 0 = s) (h1 : B.stride 1 = 1)
    (x : B.shape.Idx) (r l : ℕ) (hr : (x 0).val = r) (hl : (x 1).val = l) (R : Fin n) (L : Fin 128) (hR : R.val = o + s * r) (hL : L.val = l) : B.idx x = ix2 R L := by
  funext i
  refine Fin.ext ?_
  match i with
  | ⟨0, _⟩ => rw [LoadRect.idx_apply]; show B.off 0 + B.stride 0 * (x 0).val = R.val; rw [ho, h0, hr, hR]; rfl
  | ⟨1, _⟩ => rw [LoadRect.idx_apply]; show B.off 1 + B.stride 1 * (x 1).val = L.val; rw [ho, h1, hl, hL]; simp

section Pieces
variable {α : Type} {e : EltTy} {sp : Space} {s : Shape} (v : View sig .tc sp s e) (f : v.ty.Contents (Elt Ideal))
  (L : List (View.Piece (Elt Ideal) s e)) (G : s.Idx → Elt Ideal e)

/-- Stores that all agree with `G`, over contents that agree with it wherever no store lands, leave `G`. -/
theorem read_writes_or (hG : ∀ p ∈ L, ∀ x, p.2 x = G (p.1.emb x)) (y : s.Idx) (hf : (∃ p ∈ L, y ∈ p.1.set) ∨ v.read (Elt Ideal) f y = G y) :
    v.read (Elt Ideal) (v.writes (Elt Ideal) f L) y = G y := by
  by_cases h : ∃ p ∈ L, y ∈ p.1.set
  · exact View.read_writes_apply_of_pieces v f G L hG y h
  · rw [View.read_writes_apply_of_forall_not_mem v f y L (fun p hp hy => h ⟨p, hp, hy⟩)]
    exact hf.resolve_left h
end Pieces

/-! ## Rows at pitch 12 -/

/-- The array that holds `W o t p` at row `12 t + o`. -/
def pitchedFn (W : ℕ → ℕ → ℕ → EReal) : S96x128.Idx → EReal := fun y => W ((y 0).val % 12) ((y 0).val / 12) (y 1).val

theorem pitched_agrees (W : ℕ → ℕ → ℕ → EReal) (o : ℕ) (ho : o < 12) (h) (w : FVec Ideal S8x128 .f32) (hw : ∀ t p, w (ix2 t p) = W o t.val p.val) :
    ∀ x, (pitched (F := Ideal) o h w).2 x = pitchedFn W ((pitched (F := Ideal) o h w).1.emb x) := by
  intro x
  have e0 : ((pitched (F := Ideal) o h w).1.emb x 0).val = o + 12 * (x 0).val := rfl
  have e1 : ((pitched (F := Ideal) o h w).1.emb x 1).val = 0 + 1 * (x 1).val := rfl
  unfold pitchedFn
  rw [e0, e1, show (o + 12 * (x 0).val) % 12 = o by omega, show (o + 12 * (x 0).val) / 12 = (x 0).val by omega, show 0 + 1 * (x 1).val = (x 1).val by omega]
  exact (congrArg w (eq_ix2 (n0 := 8) (n1 := 128) x)).trans (hw (x 0) (x 1))

/-- Rows stored at pitch 12, read back eight at a time. -/
theorem read_pitched (v : View sig .tc .vmem S96x128 .f32) (f : v.ty.Contents (Elt Ideal)) (L : List (View.Piece (Elt Ideal) S96x128 .f32)) (W : ℕ → ℕ → ℕ → EReal)
    (hL : ∀ q ∈ L, ∃ (o : ℕ) (h : _) (w : FVec Ideal S8x128 .f32), q = pitched o h w ∧ o < 12 ∧ ∀ t p, w (ix2 t p) = W o t.val p.val)
    (o t : Fin 8) (p : Fin 128) (ho : o.val ∈ L.map fun q => q.1.off 0) :
    v.readAt (Elt Ideal) (Rect.unit (s := S96x128) ![12 * t.val, 0] S8x128.size (inb_rows t)).toLoadRect (v.writes (Elt Ideal) f L) (ix2 o p) = W o.val t.val p.val := by
  have ht := t.isLt
  have ho' := o.isLt
  have e : (Rect.unit (s := S96x128) ![12 * t.val, 0] S8x128.size (inb_rows t)).toLoadRect.idx (ix2 o p) = ix2 (⟨12 * t.val + o.val, by omega⟩ : Fin 96) p :=
    idx_rows _ (12 * t.val) 1 rfl rfl rfl rfl _ o.val p.val rfl rfl _ _ (by dsimp only; omega) rfl
  rw [View.readAt_apply, e, read_writes_or v f L (pitchedFn W)]
  · show W ((12 * t.val + o.val) % 12) ((12 * t.val + o.val) / 12) p.val = _
    rw [show (12 * t.val + o.val) % 12 = o.val by omega, show (12 * t.val + o.val) / 12 = t.val by omega]
  · intro q hq
    obtain ⟨o, h, w, rfl, hw, hW⟩ := hL q hq
    exact pitched_agrees W o hw h w hW
  · obtain ⟨q, hm, hq⟩ := List.mem_map.1 ho
    refine Or.inl ⟨q, hm, ?_⟩
    obtain ⟨o₁, h, w, rfl, -, -⟩ := hL q hm
    obtain rfl : o₁ = o.val := hq
    rw [← idx_rows (pitched (F := Ideal) o.val h w).1.toLoadRect o.val 12 rfl rfl rfl rfl (ix2 t p) t.val p.val rfl rfl (⟨12 * t.val + o.val, by omega⟩ : Fin 96) p (by dsimp only; omega) rfl]
    exact LoadRect.idx_mem _ _

section Trip

variable (c : Dev nD) (arg4 : Memref sig .tc .vmem S4096x128 .bf16) (arg5 : Memref sig .tc .vmem S4096x128 .f32) (arg10 : Memref sig .tc .vmem S4x128x128 .f32) (arg11 : Memref sig .tc .vmem S96x128 .f32) (arg12 : Memref sig .tc .vmem S96x128 .f32) (arg13 : Memref sig .tc .vmem S96x128 .f32)
  (v0 : EReal) (v1 : Vec Ideal S16x384 .bf16) (v2 : Vec Ideal S256x128 .bf16) (hv1 : IsSpread v1) (hv2 : IsPack v2)
  (k : Fin k0_t1_loop.trips) (f4 : Bf (F := Ideal) c arg4) (f5 : Bf (F := Ideal) c arg5) (f13 : Bf (F := Ideal) c arg13)
  (Y : ℕ → EReal) (hY : ∀ (r : Fin 4096) (l : Fin 128), v0 * (arg4.view.read (Elt Ideal) f4 (ix2 r l) : EReal) + (arg5.view.read (Elt Ideal) f5 (ix2 r l) : EReal) = Y (128 * r.val + l.val))

/-! ## The offsets of the trip -/

theorem trips_lt (k : Fin k0_t1_loop.trips) : k.val < 8 := lt_of_lt_of_eq k.isLt (by decide)
theorem off1_eq : ∀ (k : Fin k0_t1_loop.trips) (a : Fin 4), k0_off1 k (BitVec.ofNat 32 (128 * a.val)) = ![512 * k.val + 128 * a.val, 0] := by decide +kernel
theorem off2_eq : ∀ (k : Fin k0_t1_loop.trips) (a : Fin 4), k0_off2 k (BitVec.ofNat 32 (128 * a.val)) = ![512 * k.val + 128 * a.val, 0] := by decide +kernel
theorem off3_eq : ∀ (k : Fin k0_t1_loop.trips) (a : Fin 4), k0_off3 k (BitVec.ofNat 32 (128 * a.val)) = ![512 * k.val + 128 * a.val + 1, 0] := by decide +kernel
theorem off4_eq : ∀ (k : Fin k0_t1_loop.trips), k0_off4 k = ![8 * k.val, 0] := by decide +kernel
theorem off5_eq : ∀ (k : Fin k0_t1_loop.trips) (a : Fin 4), k0_off5 k (BitVec.ofNat 32 (128 * a.val)) = ![256 * k.val + 64 * a.val, 0] := by decide +kernel

/-- The elements of the trip's group. -/
def grp (n : ℕ) : EReal := Y (64 * (1024 * k.val) + n)

include hY

/-! ## The tiles -/

theorem tile_apply (a : Fin 4) (p l : Fin 128) : tile (F := Ideal) c arg4 arg5 v0 k f4 f5 a (ix2 p l) = grp k Y (128 * (128 * a.val + ρ p.val) + l.val) := by
  have hk := trips_lt k
  have ha := a.isLt
  refine tileX_apply (grp k Y) a.val v0 _ _ _ (fun p l => ?_) (fun p l => ?_) p l
  · rw [gRows, eEven, View.readAt_apply, View.readAt_apply,
      idx_rows _ (512 * k.val + 128 * a.val) 1 (off1_eq k a) rfl rfl rfl _ (2 * p.val) l.val rfl rfl (⟨512 * k.val + 128 * a.val + 2 * p.val, by omega⟩ : Fin 4096) l (by dsimp only; omega) rfl,
      idx_rows _ (512 * k.val + 128 * a.val) 2 (off2_eq k a) rfl rfl rfl _ p.val l.val rfl rfl (⟨512 * k.val + 128 * a.val + 2 * p.val, by omega⟩ : Fin 4096) l (by dsimp only) rfl]
    refine (hY _ _).trans ?_
    unfold grp; congr 1; dsimp only; omega
  · rw [gRows, eOdd, View.readAt_apply, View.readAt_apply,
      idx_rows _ (512 * k.val + 128 * a.val) 1 (off1_eq k a) rfl rfl rfl _ (2 * p.val + 1) l.val rfl rfl (⟨512 * k.val + 128 * a.val + 2 * p.val + 1, by omega⟩ : Fin 4096) l (by dsimp only; omega) rfl,
      idx_rows _ (512 * k.val + 128 * a.val + 1) 2 (off3_eq k a) rfl rfl rfl _ p.val l.val rfl rfl (⟨512 * k.val + 128 * a.val + 2 * p.val + 1, by omega⟩ : Fin 4096) l (by dsimp only; omega) rfl]
    refine (hY _ _).trans ?_
    unfold grp; congr 1; dsimp only; omega

/-! ## Scales and zero points -/

theorem rowMax_apply (t o : Fin 8) (p : Fin 128) : rowMax (F := Ideal) c arg4 arg5 arg11 v0 k f4 f5 t (ix2 o p)
    = (Finset.range 8).sup fun t' => grp k Y (64 * blk o.val p.val + (8 * t' + t.val)) := by
  refine read_pitched _ _ _ (fun o t p => (Finset.range 8).sup fun t' => grp k Y (64 * blk o p + (8 * t' + t))) (fun q hq => ?_) o t p ?_
  · simp only [halfRows, List.mem_cons, List.not_mem_nil, or_false] at hq
    rcases hq with rfl | rfl | rfl | rfl | rfl | rfl | rfl | rfl
    · exact ⟨7, _, _, rfl, by norm_num, fun t p => hMax1_apply (grp k Y) 3 _ (tile_apply c arg4 arg5 v0 k f4 f5 Y hY 3) t p⟩
    · exact ⟨6, _, _, rfl, by norm_num, fun t p => hMax0_apply (grp k Y) 3 _ (tile_apply c arg4 arg5 v0 k f4 f5 Y hY 3) t p⟩
    · exact ⟨5, _, _, rfl, by norm_num, fun t p => hMax1_apply (grp k Y) 2 _ (tile_apply c arg4 arg5 v0 k f4 f5 Y hY 2) t p⟩
    · exact ⟨4, _, _, rfl, by norm_num, fun t p => hMax0_apply (grp k Y) 2 _ (tile_apply c arg4 arg5 v0 k f4 f5 Y hY 2) t p⟩
    · exact ⟨3, _, _, rfl, by norm_num, fun t p => hMax1_apply (grp k Y) 1 _ (tile_apply c arg4 arg5 v0 k f4 f5 Y hY 1) t p⟩
    · exact ⟨2, _, _, rfl, by norm_num, fun t p => hMax0_apply (grp k Y) 1 _ (tile_apply c arg4 arg5 v0 k f4 f5 Y hY 1) t p⟩
    · exact ⟨1, _, _, rfl, by norm_num, fun t p => hMax1_apply (grp k Y) 0 _ (tile_apply c arg4 arg5 v0 k f4 f5 Y hY 0) t p⟩
    · exact ⟨0, _, _, rfl, by norm_num, fun t p => hMax0_apply (grp k Y) 0 _ (tile_apply c arg4 arg5 v0 k f4 f5 Y hY 0) t p⟩
  · fin_cases o <;> simp [halfRows, pitched]

theorem rowMin_apply (t o : Fin 8) (p : Fin 128) : rowMin (F := Ideal) c arg4 arg5 arg12 v0 k f4 f5 t (ix2 o p)
    = (Finset.range 8).inf fun t' => grp k Y (64 * blk o.val p.val + (8 * t' + t.val)) := by
  refine read_pitched _ _ _ (fun o t p => (Finset.range 8).inf fun t' => grp k Y (64 * blk o p + (8 * t' + t))) (fun q hq => ?_) o t p ?_
  · simp only [halfRows, List.mem_cons, List.not_mem_nil, or_false] at hq
    rcases hq with rfl | rfl | rfl | rfl | rfl | rfl | rfl | rfl
    · exact ⟨7, _, _, rfl, by norm_num, fun t p => hMin1_apply (grp k Y) 3 _ (tile_apply c arg4 arg5 v0 k f4 f5 Y hY 3) t p⟩
    · exact ⟨6, _, _, rfl, by norm_num, fun t p => hMin0_apply (grp k Y) 3 _ (tile_apply c arg4 arg5 v0 k f4 f5 Y hY 3) t p⟩
    · exact ⟨5, _, _, rfl, by norm_num, fun t p => hMin1_apply (grp k Y) 2 _ (tile_apply c arg4 arg5 v0 k f4 f5 Y hY 2) t p⟩
    · exact ⟨4, _, _, rfl, by norm_num, fun t p => hMin0_apply (grp k Y) 2 _ (tile_apply c arg4 arg5 v0 k f4 f5 Y hY 2) t p⟩
    · exact ⟨3, _, _, rfl, by norm_num, fun t p => hMin1_apply (grp k Y) 1 _ (tile_apply c arg4 arg5 v0 k f4 f5 Y hY 1) t p⟩
    · exact ⟨2, _, _, rfl, by norm_num, fun t p => hMin0_apply (grp k Y) 1 _ (tile_apply c arg4 arg5 v0 k f4 f5 Y hY 1) t p⟩
    · exact ⟨1, _, _, rfl, by norm_num, fun t p => hMin1_apply (grp k Y) 0 _ (tile_apply c arg4 arg5 v0 k f4 f5 Y hY 0) t p⟩
    · exact ⟨0, _, _, rfl, by norm_num, fun t p => hMin0_apply (grp k Y) 0 _ (tile_apply c arg4 arg5 v0 k f4 f5 Y hY 0) t p⟩
  · fin_cases o <;> simp [halfRows, pitched]

theorem bMax_apply (j : Fin 8) (p : Fin 128) : bMax (F := Ideal) c arg4 arg5 arg11 v0 k f4 f5 (ix2 j p) = Spec.mx (grp k Y) (blk j.val p.val) :=
  max_apply (grp k Y) (rowMax (F := Ideal) c arg4 arg5 arg11 v0 k f4 f5) j p (fun t => rowMax_apply c arg4 arg5 arg11 v0 k f4 f5 Y hY t j p)
theorem bMin_apply (j : Fin 8) (p : Fin 128) : k0_pay47 (rowMin (F := Ideal) c arg4 arg5 arg12 v0 k f4 f5 6) (rowMin (F := Ideal) c arg4 arg5 arg12 v0 k f4 f5 7) (bMin5 (F := Ideal) c arg4 arg5 arg12 v0 k f4 f5) (ix2 j p) = Spec.mn (grp k Y) (blk j.val p.val) :=
  min_apply (grp k Y) (rowMin (F := Ideal) c arg4 arg5 arg12 v0 k f4 f5) j p (fun t => rowMin_apply c arg4 arg5 arg12 v0 k f4 f5 Y hY t j p)

/-! ## The parts -/

omit hY in
/-- Part `o` of half row `t`, tile row `p`. -/
def partAt (y : ℕ → EReal) (o t p : ℕ) : EReal :=
  if o = 0 then Spec.s y (blk t p) else if o = 1 then Ideal.div 1 (Spec.s y (blk t p)) else if o = 4 then ((7.5 : ℝ) : EReal) - Spec.z y (blk t p) else 0

theorem parts_isParts (t : Fin 8) : IsParts (grp k Y) t.val (parts (F := Ideal) c arg4 arg5 arg11 arg12 arg13 v0 k f4 f5 f13 t) := by
  have hM := bMax_apply c arg4 arg5 arg11 v0 k f4 f5 Y hY
  have hm := bMin_apply c arg4 arg5 arg12 v0 k f4 f5 Y hY
  have key := fun (o : Fin 8) (ho : o.val < 5) (p : Fin 128) => read_pitched arg13.view f13 (partStores (F := Ideal) c arg4 arg5 arg11 arg12 v0 k f4 f5) (partAt (grp k Y)) (fun q hq => by
    simp only [partStores, List.mem_cons, List.not_mem_nil, or_false] at hq
    rcases hq with rfl | rfl | rfl | rfl | rfl
    · refine ⟨4, _, _, rfl, by norm_num, fun t p => ?_⟩
      pointwise [k0_pay60]
      exact c_apply (grp k Y) _ _ _ _ t p (hM t p) (hm t p)
    · refine ⟨3, _, _, rfl, by norm_num, fun t p => ?_⟩
      pointwise [k0_pay59]
      exact low_apply (grp k Y) _ _ _ _ t p (hM t p) (hm t p)
    · refine ⟨2, _, _, rfl, by norm_num, fun t p => ?_⟩
      unfold onBlocks
      pointwise [k0_pay58]
      exact mid_apply (grp k Y) _ _ _ _ t p (hM t p) (hm t p)
    · refine ⟨1, _, _, rfl, by norm_num, fun t p => ?_⟩
      unfold onBlocks
      pointwise [k0_pay57, k0_pay51]
      exact inv_apply (grp k Y) _ _ _ _ t p (hM t p) (hm t p)
    · refine ⟨0, _, _, rfl, by norm_num, fun t p => ?_⟩
      unfold onBlocks
      pointwise [k0_pay56]
      exact s_apply (grp k Y) _ _ _ _ t p (hM t p) (hm t p)) o t p
    (by obtain ⟨o, h⟩ := o; dsimp only at ho ⊢; interval_cases o <;> simp [partStores, pitched])
  intro p
  exact ⟨key 0 (by decide) p, key 1 (by decide) p, key 2 (by decide) p, key 3 (by decide) p, key 4 (by decide) p⟩

/-! ## The stored tiles -/

theorem tileBack_apply (a : Fin 4) (p l : Fin 128) : tileBack (F := Ideal) c arg4 arg5 arg10 v0 k f4 f5 a (ix3 0 p l) = grp k Y (128 * (128 * a.val + ρ p.val) + l.val) := by
  have e : ∀ (x : (Rect.unit (s := S4x128x128) ![a.val, 0, 0] S1x128x128.size (inb_tile a)).shape.Idx), (x 1).val = p.val → (x 2).val = l.val →
      (Rect.unit (s := S4x128x128) ![a.val, 0, 0] S1x128x128.size (inb_tile a)).toLoadRect.idx x = ix3 a p l := by
    intro x h1 h2
    have h0 : (x 0).val < 1 := (x 0).isLt
    funext i
    refine Fin.ext ?_
    match i with
    | ⟨0, _⟩ => show a.val + 1 * (x 0).val = a.val; omega
    | ⟨1, _⟩ => show 0 + 1 * (x 1).val = p.val; omega
    | ⟨2, _⟩ => show 0 + 1 * (x 2).val = l.val; omega
  unfold tileBack View.readCov
  rw [View.readAt_apply, e (ix3 0 p l) rfl rfl]
  refine read_writes_or arg10.view _ _ (fun y => grp k Y (128 * (128 * (y 0).val + ρ (y 1).val) + (y 2).val)) (fun q hq x => ?_) _ (Or.inl ?_)
  · have key : ∀ b : Fin 4, ∀ x : S1x128x128.Idx, k0_pay5 (F := Ideal) v0 (gRows c arg4 k f4 b) (eEven c arg5 k f5 b) (eOdd c arg5 k f5 b) x
        = grp k Y (128 * (128 * (b.val + 1 * (x 0).val) + ρ (0 + 1 * (x 1).val)) + (0 + 1 * (x 2).val)) := by
      intro b x
      have h0 : (x 0).val < 1 := (x 0).isLt
      rw [eq_ix3 (n0 := 1) (n1 := 128) (n2 := 128) x]
      have h1 := tile_apply c arg4 arg5 v0 k f4 f5 Y hY b (x 1) (x 2)
      unfold tile at h1
      pointwise [k0_pay5]
      exact h1
    simp only [tileStores, List.mem_cons, List.not_mem_nil, or_false] at hq
    rcases hq with rfl | rfl | rfl | rfl
    · exact key 3 x
    · exact key 2 x
    · exact key 1 x
    · exact key 0 x
  · refine ⟨tileAt c arg4 arg5 v0 k f4 f5 a (inb_tile a), ?_, ?_⟩
    · fin_cases a <;> simp [tileStores]
    · rw [← e (ix3 0 p l) rfl rfl]
      exact LoadRect.idx_mem _ _

/-! ## What the stores hold -/

omit hY in
theorem pay77_apply (v1 : Vec Ideal S16x384 .bf16) (q0 q1 : Vec Ideal S8x128 .f32) (x : Vec Ideal S1x128x128 .f32) (r : Fin 64) (l : Fin 128) :
    k0_pay77 v1 q0 q1 x (ix2 r l) = k0_pay76 v1 q0 q1 x (ix2 ⟨r.val, by omega⟩ l) := by
  pointwise [k0_pay77]

omit hY in
theorem pay78_apply (v1 : Vec Ideal S16x384 .bf16) (q0 q1 : Vec Ideal S8x128 .f32) (x : Vec Ideal S1x128x128 .f32) (r : Fin 64) (l : Fin 128) :
    k0_pay78 v1 q0 q1 x (ix2 r l) = k0_pay76 v1 q0 q1 x (ix2 ⟨64 + r.val, by omega⟩ l) := by
  pointwise [k0_pay78]

include hv1

theorem errAt (a : Fin 4) (p l : Fin 128) : onTile (F := Ideal) c arg4 arg5 arg10 arg11 arg12 arg13 v0 v1 k f4 f5 f13 a k0_pay76 (ix2 p l)
    = Spec.err Y (128 * (512 * k.val + 128 * a.val + ρ p.val) + l.val) := by
  have hk := trips_lt k
  refine (error_apply v1 hv1 _ _ p (grp k Y) a.val _ (parts_isParts c arg4 arg5 arg11 arg12 arg13 v0 k f4 f5 f13 Y hY ⟨2 * a.val, by omega⟩)
    (parts_isParts c arg4 arg5 arg11 arg12 arg13 v0 k f4 f5 f13 Y hY ⟨2 * a.val + 1, by omega⟩) l (tileBack_apply c arg4 arg5 arg10 v0 k f4 f5 Y hY a)).trans ?_
  rw [Spec.err_shift Y (grp k Y) 1024 (1024 * k.val) (fun n _ => rfl) _ (by unfold ρ; omega)]
  congr 1; omega

include hv2 in
theorem byteAt (a : Fin 4) (r : Fin 64) (l : Fin 128) : k0_pay80 (F := Ideal) v2 (onTile (F := Ideal) c arg4 arg5 arg10 arg11 arg12 arg13 v0 v1 k f4 f5 f13 a k0_pay79) (constant S64x128 .f32 0x00000000#32) (ix2 r l)
    = Spec.code Y (128 * (256 * k.val + 64 * a.val + r.val) + l.val) := by
  have hk := trips_lt k
  refine (byte_apply v1 hv1 _ _ (grp k Y) a.val _ (parts_isParts c arg4 arg5 arg11 arg12 arg13 v0 k f4 f5 f13 Y hY ⟨2 * a.val, by omega⟩)
    (parts_isParts c arg4 arg5 arg11 arg12 arg13 v0 k f4 f5 f13 Y hY ⟨2 * a.val + 1, by omega⟩) l (tileBack_apply c arg4 arg5 arg10 v0 k f4 f5 Y hY a) v2 hv2 r).trans ?_
  rw [Spec.code_shift Y (grp k Y) 1024 (1024 * k.val) (fun n _ => rfl) _ (by omega)]
  congr 1; omega

omit hv1

/-! ## The four arrays after the trip -/

omit hY in
/-- The array of rounding errors, of bytes, of scales and of zero points, as the elements `Y` give them. -/
def errFn : S4096x128.Idx → EReal := fun y => Spec.err Y (128 * (y 0).val + (y 1).val)
omit hY in
def byteFn : S2048x128.Idx → BitVec 8 := fun y => Spec.code Y (128 * (y 0).val + (y 1).val)
omit hY in
def scaleFn : S64x128.Idx → EReal := fun y => Spec.s Y (128 * (y 0).val + (y 1).val)
omit hY in
def zeroFn : S64x128.Idx → BitVec 32 := fun y => Ideal.fptosi 32 (Spec.z Y (128 * (y 0).val + (y 1).val))

include hv1 in
theorem err_after (arg6 : Memref sig .tc .vmem S4096x128 .f32) (f6 : Bf (F := Ideal) c arg6)
    (h6 : ∀ y : S4096x128.Idx, (y 0).val < 512 * k.val → arg6.view.read (Elt Ideal) f6 y = errFn Y y) (y : S4096x128.Idx) (hy : (y 0).val < 512 * (k.val + 1)) :
    arg6.view.read (Elt Ideal) (arg6.view.writes (Elt Ideal) f6 (errStores (F := Ideal) c arg4 arg5 arg10 arg11 arg12 arg13 v0 v1 k f4 f5 f13)) y = errFn Y y := by
  have hk := trips_lt k
  have key := errAt c arg4 arg5 arg10 arg11 arg12 arg13 v0 v1 hv1 k f4 f5 f13 Y hY
  have agree0 : ∀ a : Fin 4, ∀ x, (errStore0 (F := Ideal) c arg4 arg5 arg10 arg11 arg12 arg13 v0 v1 k f4 f5 f13 a).2 x
      = errFn Y ((errStore0 (F := Ideal) c arg4 arg5 arg10 arg11 arg12 arg13 v0 v1 k f4 f5 f13 a).1.emb x) := by
    intro a x
    have hx0 : (x 0).val < 64 := (x 0).isLt
    have hx1 : (x 1).val < 128 := (x 1).isLt
    have e : (errStore0 (F := Ideal) c arg4 arg5 arg10 arg11 arg12 arg13 v0 v1 k f4 f5 f13 a).1.emb x = ix2 (⟨512 * k.val + 128 * a.val + 2 * (x 0).val, by omega⟩ : Fin 4096) (⟨(x 1).val, hx1⟩ : Fin 128) :=
      idx_rows _ (512 * k.val + 128 * a.val) 2 (off2_eq k a) rfl rfl rfl x _ _ rfl rfl _ _ (by dsimp only) (by dsimp only)
    rw [e]
    have h := key a ⟨(x 0).val, by omega⟩ ⟨(x 1).val, hx1⟩
    refine Eq.trans ?_ (h.trans ?_)
    · exact (congrArg _ (eq_ix2 (n0 := 64) (n1 := 128) x)).trans (pay77_apply _ _ _ _ (x 0) (x 1))
    · unfold errFn ρ
      congr 1
      simp only [ix2_0, ix2_1]
      omega
  have agree1 : ∀ a : Fin 4, ∀ x, (errStore1 (F := Ideal) c arg4 arg5 arg10 arg11 arg12 arg13 v0 v1 k f4 f5 f13 a).2 x
      = errFn Y ((errStore1 (F := Ideal) c arg4 arg5 arg10 arg11 arg12 arg13 v0 v1 k f4 f5 f13 a).1.emb x) := by
    intro a x
    have hx0 : (x 0).val < 64 := (x 0).isLt
    have hx1 : (x 1).val < 128 := (x 1).isLt
    have e : (errStore1 (F := Ideal) c arg4 arg5 arg10 arg11 arg12 arg13 v0 v1 k f4 f5 f13 a).1.emb x = ix2 (⟨512 * k.val + 128 * a.val + 1 + 2 * (x 0).val, by omega⟩ : Fin 4096) (⟨(x 1).val, hx1⟩ : Fin 128) :=
      idx_rows _ (512 * k.val + 128 * a.val + 1) 2 (off3_eq k a) rfl rfl rfl x _ _ rfl rfl _ _ (by dsimp only) (by dsimp only)
    rw [e]
    have h := key a ⟨64 + (x 0).val, by omega⟩ ⟨(x 1).val, hx1⟩
    refine Eq.trans ?_ (h.trans ?_)
    · exact (congrArg _ (eq_ix2 (n0 := 64) (n1 := 128) x)).trans (pay78_apply _ _ _ _ (x 0) (x 1))
    · unfold errFn ρ
      congr 1
      simp only [ix2_0, ix2_1]
      omega
  refine read_writes_or arg6.view f6 _ (errFn Y) (fun q hq => ?_) y ?_
  · simp only [errStores, List.mem_cons, List.not_mem_nil, or_false] at hq
    rcases hq with rfl | rfl | rfl | rfl | rfl | rfl | rfl | rfl
    exacts [agree1 3, agree0 3, agree1 2, agree0 2, agree1 1, agree0 1, agree1 0, agree0 0]
  · by_cases hlow : (y 0).val < 512 * k.val
    · exact Or.inr (h6 y hlow)
    · have hy1 : (y 1).val < 128 := (y 1).isLt
      obtain ⟨a, ha⟩ : ∃ a : Fin 4, a.val = ((y 0).val - 512 * k.val) / 128 := ⟨⟨((y 0).val - 512 * k.val) / 128, by omega⟩, rfl⟩
      refine Or.inl ?_
      by_cases hpar : (y 0).val % 2 = 0
      · refine ⟨errStore0 (F := Ideal) c arg4 arg5 arg10 arg11 arg12 arg13 v0 v1 k f4 f5 f13 a, ?_, ?_⟩
        · clear ha; fin_cases a <;> simp [errStores]
        · have e := idx_rows (errStore0 (F := Ideal) c arg4 arg5 arg10 arg11 arg12 arg13 v0 v1 k f4 f5 f13 a).1.toLoadRect (512 * k.val + 128 * a.val) 2 (off2_eq k a) rfl rfl rfl
            (ix2 (⟨((y 0).val - 512 * k.val - 128 * a.val) / 2, by omega⟩ : Fin 64) (⟨(y 1).val, hy1⟩ : Fin 128)) _ _ rfl rfl (y 0) (y 1) (by dsimp only [ix2_0]; omega) (by dsimp only [ix2_1])
          rw [eq_ix2 (n0 := 4096) (n1 := 128) y, ← e]
          exact LoadRect.idx_mem _ _
      · refine ⟨errStore1 (F := Ideal) c arg4 arg5 arg10 arg11 arg12 arg13 v0 v1 k f4 f5 f13 a, ?_, ?_⟩
        · clear ha; fin_cases a <;> simp [errStores]
        · have e := idx_rows (errStore1 (F := Ideal) c arg4 arg5 arg10 arg11 arg12 arg13 v0 v1 k f4 f5 f13 a).1.toLoadRect (512 * k.val + 128 * a.val + 1) 2 (off3_eq k a) rfl rfl rfl
            (ix2 (⟨((y 0).val - 512 * k.val - 128 * a.val) / 2, by omega⟩ : Fin 64) (⟨(y 1).val, hy1⟩ : Fin 128)) _ _ rfl rfl (y 0) (y 1) (by dsimp only [ix2_0]; omega) (by dsimp only [ix2_1])
          rw [eq_ix2 (n0 := 4096) (n1 := 128) y, ← e]
          exact LoadRect.idx_mem _ _

include hv1 hv2 in
theorem byte_after (arg7 : Memref sig .tc .vmem S2048x128 .i8) (f7 : Bf (F := Ideal) c arg7)
    (h7 : ∀ y : S2048x128.Idx, (y 0).val < 256 * k.val → arg7.view.read (Elt Ideal) f7 y = byteFn Y y) (y : S2048x128.Idx) (hy : (y 0).val < 256 * (k.val + 1)) :
    arg7.view.read (Elt Ideal) (arg7.view.writes (Elt Ideal) f7 (byteStores (F := Ideal) c arg4 arg5 arg10 arg11 arg12 arg13 v0 v1 v2 k f4 f5 f13)) y = byteFn Y y := by
  have hk := trips_lt k
  have agree : ∀ a : Fin 4, ∀ x, (byteStore (F := Ideal) c arg4 arg5 arg10 arg11 arg12 arg13 v0 v1 v2 k f4 f5 f13 a).2 x
      = byteFn Y ((byteStore (F := Ideal) c arg4 arg5 arg10 arg11 arg12 arg13 v0 v1 v2 k f4 f5 f13 a).1.emb x) := by
    intro a x
    have hx0 : (x 0).val < 64 := (x 0).isLt
    have hx1 : (x 1).val < 128 := (x 1).isLt
    have e : (byteStore (F := Ideal) c arg4 arg5 arg10 arg11 arg12 arg13 v0 v1 v2 k f4 f5 f13 a).1.emb x = ix2 (⟨256 * k.val + 64 * a.val + (x 0).val, by omega⟩ : Fin 2048) (⟨(x 1).val, hx1⟩ : Fin 128) :=
      idx_rows _ (256 * k.val + 64 * a.val) 1 (off5_eq k a) rfl rfl rfl x _ _ rfl rfl _ _ (by dsimp only; omega) (by dsimp only)
    rw [e]
    refine Eq.trans (congrArg _ (eq_ix2 (n0 := 64) (n1 := 128) x)) ?_
    exact byteAt c arg4 arg5 arg10 arg11 arg12 arg13 v0 v1 v2 hv1 hv2 k f4 f5 f13 Y hY a (x 0) (x 1)
  refine read_writes_or arg7.view f7 _ (byteFn Y) (fun q hq => ?_) y ?_
  · simp only [byteStores, List.mem_cons, List.not_mem_nil, or_false] at hq
    rcases hq with rfl | rfl | rfl | rfl
    exacts [agree 3, agree 2, agree 1, agree 0]
  · by_cases hlow : (y 0).val < 256 * k.val
    · exact Or.inr (h7 y hlow)
    · have hy1 : (y 1).val < 128 := (y 1).isLt
      obtain ⟨a, ha⟩ : ∃ a : Fin 4, a.val = ((y 0).val - 256 * k.val) / 64 := ⟨⟨((y 0).val - 256 * k.val) / 64, by omega⟩, rfl⟩
      refine Or.inl ⟨byteStore (F := Ideal) c arg4 arg5 arg10 arg11 arg12 arg13 v0 v1 v2 k f4 f5 f13 a, ?_, ?_⟩
      · clear ha; fin_cases a <;> simp [byteStores]
      · have e := idx_rows (byteStore (F := Ideal) c arg4 arg5 arg10 arg11 arg12 arg13 v0 v1 v2 k f4 f5 f13 a).1.toLoadRect (256 * k.val + 64 * a.val) 1 (off5_eq k a) rfl rfl rfl
          (ix2 (⟨(y 0).val - 256 * k.val - 64 * a.val, by omega⟩ : Fin 64) (⟨(y 1).val, hy1⟩ : Fin 128)) _ _ rfl rfl (y 0) (y 1) (by dsimp only [ix2_0]; omega) (by dsimp only [ix2_1])
        rw [eq_ix2 (n0 := 2048) (n1 := 128) y, ← e]
        exact LoadRect.idx_mem _ _

omit hY in
/-- A store of eight rows at the trip's rows of a carried array. -/
theorem rows_after {e : EltTy} (M : Memref sig .tc .vmem S64x128 e) (f : M.view.ty.Contents (Elt Ideal)) (w : S8x128.Idx → Elt Ideal e) (G : S64x128.Idx → Elt Ideal e)
    (hw : ∀ (s : Fin 8) (l : Fin 128), w (ix2 s l) = G (ix2 ⟨8 * k.val + s.val, by have := trips_lt k; omega⟩ l))
    (h : ∀ y : S64x128.Idx, (y 0).val < 8 * k.val → M.view.read (Elt Ideal) f y = G y) (y : S64x128.Idx) (hy : (y 0).val < 8 * (k.val + 1)) :
    M.view.read (Elt Ideal) (M.view.writes (Elt Ideal) f [⟨Rect.unit (s := S64x128) (k0_off4 k) S8x128.size (k0_off4_inb k), w⟩]) y = G y := by
  have hk := trips_lt k
  refine read_writes_or M.view f _ G (fun q hq x => ?_) y ?_
  · obtain rfl := List.mem_singleton.1 hq
    have e : (Rect.unit (s := S64x128) (k0_off4 k) S8x128.size (k0_off4_inb k)).emb x = ix2 (⟨8 * k.val + (x 0).val, by have := (x 0).isLt; have h8 : (x 0).val < 8 := this; omega⟩ : Fin 64) (x 1) :=
      idx_rows _ (8 * k.val) 1 (off4_eq k) rfl rfl rfl x _ _ rfl rfl _ _ (by dsimp only; omega) rfl
    show w x = _
    rw [e]
    exact (congrArg w (eq_ix2 (n0 := 8) (n1 := 128) x)).trans (hw (x 0) (x 1))
  · by_cases hlow : (y 0).val < 8 * k.val
    · exact Or.inr (h y hlow)
    · refine Or.inl ⟨_, List.mem_singleton.2 rfl, ?_⟩
      have e := idx_rows (Rect.unit (s := S64x128) (k0_off4 k) S8x128.size (k0_off4_inb k)).toLoadRect (8 * k.val) 1 (off4_eq k) rfl rfl rfl
          (ix2 (⟨(y 0).val - 8 * k.val, by omega⟩ : Fin 8) (y 1 : Fin 128)) _ _ rfl rfl (y 0) (y 1) (by show (y 0).val = 8 * k.val + 1 * ((y 0).val - 8 * k.val); omega) rfl
      rw [eq_ix2 (n0 := 64) (n1 := 128) y, ← e]
      exact LoadRect.idx_mem _ _

theorem zero_after (arg14 : Memref sig .tc .vmem S64x128 .i32) (f14 : Bf (F := Ideal) c arg14)
    (h14 : ∀ y : S64x128.Idx, (y 0).val < 8 * k.val → arg14.view.read (Elt Ideal) f14 y = zeroFn Y y) (y : S64x128.Idx) (hy : (y 0).val < 8 * (k.val + 1)) :
    arg14.view.read (Elt Ideal) (arg14.view.writes (Elt Ideal) f14 [zeroStore (F := Ideal) c arg4 arg5 arg11 arg12 v0 k f4 f5]) y = zeroFn Y y := by
  refine rows_after k arg14 f14 _ (zeroFn Y) (fun s l => ?_) h14 y hy
  rw [shuf_apply _ (fun b => Ideal.fptosi 32 (Spec.z (grp k Y) b)) (fun j p => congrArg (Ideal.fptosi 32)
    (z_apply (grp k Y) _ _ _ _ j p (bMax_apply c arg4 arg5 arg11 v0 k f4 f5 Y hY j p) (bMin_apply c arg4 arg5 arg12 v0 k f4 f5 Y hY j p)))]
  rw [Spec.z_shift Y (grp k Y) 1024 (1024 * k.val) (fun n _ => rfl) _ (by omega)]
  unfold zeroFn
  congr 2
  simp only [ix2_0, ix2_1]
  omega

theorem scale_after (arg15 : Memref sig .tc .vmem S64x128 .f32) (f15 : Bf (F := Ideal) c arg15)
    (h15 : ∀ y : S64x128.Idx, (y 0).val < 8 * k.val → arg15.view.read (Elt Ideal) f15 y = scaleFn Y y) (y : S64x128.Idx) (hy : (y 0).val < 8 * (k.val + 1)) :
    arg15.view.read (Elt Ideal) (arg15.view.writes (Elt Ideal) f15 [scaleStore (F := Ideal) c arg4 arg5 arg11 arg12 v0 k f4 f5]) y = scaleFn Y y := by
  refine rows_after k arg15 f15 _ (scaleFn Y) (fun s l => ?_) h15 y hy
  refine (shuf_apply (onBlocks (F := Ideal) c arg4 arg5 arg11 arg12 v0 k f4 f5 k0_pay48) (Spec.s (grp k Y)) (fun j p =>
    s_apply (grp k Y) _ _ _ _ j p (bMax_apply c arg4 arg5 arg11 v0 k f4 f5 Y hY j p) (bMin_apply c arg4 arg5 arg12 v0 k f4 f5 Y hY j p)) s l).trans ?_
  rw [Spec.s_shift Y (grp k Y) 1024 (1024 * k.val) (fun n _ => rfl) _ (by omega)]
  unfold scaleFn
  congr 1
  simp only [ix2_0, ix2_1]
  omega

end Trip

end Cert.Proof.KernelIdeal

end
-- ==== Proof.IdealRun.lean ====
/-
  The body at one grid point, over the extended reals: the loop's invariant (the rows of the trips done so far hold what
  the specification says of the block's elements), and what the four result blocks hold when the body returns.
-/
module

public import proofs.«01_k».proof.Proof.TripValues
public import proofs.«01_k».proof.Proof.Gen.KernelIdeal.Loops

@[expose] public section

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A load of a whole array of rows reads it. -/
theorem readAt_all {n a : ℕ} {e : EltTy} {sp : Space} (v : View sig .tc sp ⟨2, ![n, a]⟩ e)
    (inb : ∀ i, (![0, 0] : Fin 2 → ℕ) i + (![n, a] : Fin 2 → ℕ) i ≤ (⟨2, ![n, a]⟩ : Shape).size i) (f : v.ty.Contents (Elt Ideal)) :
    v.readAt (Elt Ideal) (Rect.unit (s := ⟨2, ![n, a]⟩) ![0, 0] ![n, a] inb).toLoadRect f = v.read (Elt Ideal) f := by
  funext x
  rw [View.readAt_apply]
  congr 1
  funext i
  refine Fin.ext ?_
  rw [LoadRect.idx_apply]
  match i with
  | ⟨0, _⟩ => show 0 + 1 * (x 0).val = (x 0).val; omega
  | ⟨1, _⟩ => show 0 + 1 * (x 1).val = (x 1).val; omega

/-- A store over a whole array leaves what was stored. -/
theorem stored_all {n a : ℕ} {e : EltTy} {sp : Space} (v : View sig .tc sp ⟨2, ![n, a]⟩ e)
    (inb : ∀ i, (![0, 0] : Fin 2 → ℕ) i + (![n, a] : Fin 2 → ℕ) i ≤ (⟨2, ![n, a]⟩ : Shape).size i) (f : v.ty.Contents (Elt Ideal))
    (w : (⟨2, ![n, a]⟩ : Shape).Idx → Elt Ideal e) (y : (⟨2, ![n, a]⟩ : Shape).Idx) :
    v.read (Elt Ideal) (v.writes (Elt Ideal) f [⟨Rect.unit (s := ⟨2, ![n, a]⟩) ![0, 0] ![n, a] inb, w⟩]) y = w y := by
  have e : ∀ x : (⟨2, ![n, a]⟩ : Shape).Idx, (Rect.unit (s := ⟨2, ![n, a]⟩) ![0, 0] ![n, a] inb).toLoadRect.idx x = x := fun x => by
    funext i
    refine Fin.ext ?_
    rw [LoadRect.idx_apply]
    match i with
    | ⟨0, _⟩ => show 0 + 1 * (x 0).val = (x 0).val; omega
    | ⟨1, _⟩ => show 0 + 1 * (x 1).val = (x 1).val; omega
  refine read_writes_or v f _ w (fun q hq x => ?_) y (Or.inl ⟨_, List.mem_singleton.2 rfl, ?_⟩)
  · obtain rfl := List.mem_singleton.1 hq
    exact congrArg w (e x).symm
  · have h := LoadRect.idx_mem (Rect.unit (s := ⟨2, ![n, a]⟩) ![0, 0] ![n, a] inb).toLoadRect y
    rwa [e y] at h

/-- A zero point's word cut to a byte. -/
theorem pay3_apply (x : Vec Ideal S64x128 .i32) (y : S64x128.Idx) : k0_pay3 (F := Ideal) x y = (x y).setWidth 8 := by
  rw [eq_ix2 (n0 := 64) (n1 := 128) y]
  pointwise [k0_pay3]
  generalize x _ = w
  ext i hi
  have h : (255#32).getLsbD i = true := by interval_cases i <;> rfl
  simp only [BitVec.getElem_setWidth]
  show (BitVec.and w 255#32).getLsbD i = BitVec.getLsbD w i
  rw [show BitVec.and w 255#32 = w &&& 255#32 from rfl, BitVec.getLsbD_and, h, Bool.and_true]

section Body

variable (c : Dev nD) (i : grid0.Coords) (arg1 : Memref sig .tc .smem S1x1 .f32) (harg1 : arg1.IsWhole) (arg2 : Memref sig .tc .vmem S16x384 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S2048x128 .i8) (harg7 : arg7.IsWhole) (arg8 : Memref sig .tc .vmem S64x128 .bf16) (harg8 : arg8.IsWhole) (arg9 : Memref sig .tc .vmem S64x128 .i8) (harg9 : arg9.IsWhole) (arg10 : Memref sig .tc .vmem S4x128x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S96x128 .f32) (harg13 : arg13.IsWhole) (arg14 : Memref sig .tc .vmem S64x128 .i32) (harg14 : arg14.IsWhole) (arg15 : Memref sig .tc .vmem S64x128 .f32) (harg15 : arg15.IsWhole)

/-- What the values read at the start of the body mean: the two matrices are the spreading and the packing matrix, and the
    elements of the block, `v0` times the first input plus the second, are `Y 0`, `Y 1`, … in flat order. -/
def Known (v0 : EReal) (v1 : Vec Ideal S16x384 .bf16) (v2 : Vec Ideal S256x128 .bf16) (f4 : Bf (F := Ideal) c arg4) (f5 : Bf (F := Ideal) c arg5) (Y : ℕ → EReal) : Prop :=
  IsSpread v1 ∧ IsPack v2 ∧ ∀ (r : Fin 4096) (l : Fin 128), v0 * (arg4.view.read (Elt Ideal) f4 (ix2 r l) : EReal) + (arg5.view.read (Elt Ideal) f5 (ix2 r l) : EReal) = Y (128 * r.val + l.val)

/-- The rows of the first `n` of contents `f` agree with `G Y` for each `Y` with `K Y`. -/
def Held {n : ℕ} {sp : Space} {e : EltTy} (K : (ℕ → EReal) → Prop) (M : Memref sig .tc sp ⟨2, ![n, 128]⟩ e) (G : (ℕ → EReal) → (⟨2, ![n, 128]⟩ : Shape).Idx → Elt Ideal e) (b : ℕ) (f : M.view.ty.Contents (Elt Ideal)) : Prop :=
  ∀ Y, K Y → ∀ y : (⟨2, ![n, 128]⟩ : Shape).Idx, (y 0).val < b → M.view.read (Elt Ideal) f y = G Y y

/-- The loop's invariant before trip `k`. -/
def loopRes (v0 : EReal) (v1 : Vec Ideal S16x384 .bf16) (v2 : Vec Ideal S256x128 .bf16) (f4 : Bf (F := Ideal) c arg4) (f5 : Bf (F := Ideal) c arg5) (k : ℕ) : sProp 𝕄 :=
  iprop(pt c arg4 f4 ∗ pt c arg5 f5
    ∗ (∃ f : Bf (F := Ideal) c arg6, ⌜Held (Known c arg4 arg5 v0 v1 v2 f4 f5) arg6 errFn (512 * k) f⌝ ∗ pt c arg6 f)
    ∗ (∃ f : Bf (F := Ideal) c arg7, ⌜Held (Known c arg4 arg5 v0 v1 v2 f4 f5) arg7 byteFn (256 * k) f⌝ ∗ pt c arg7 f)
    ∗ (∃ f : Bf (F := Ideal) c arg10, pt c arg10 f) ∗ (∃ f : Bf (F := Ideal) c arg11, pt c arg11 f) ∗ (∃ f : Bf (F := Ideal) c arg12, pt c arg12 f) ∗ (∃ f : Bf (F := Ideal) c arg13, pt c arg13 f)
    ∗ (∃ f : Bf (F := Ideal) c arg14, ⌜Held (Known c arg4 arg5 v0 v1 v2 f4 f5) arg14 zeroFn (8 * k) f⌝ ∗ pt c arg14 f)
    ∗ (∃ f : Bf (F := Ideal) c arg15, ⌜Held (Known c arg4 arg5 v0 v1 v2 f4 f5) arg15 scaleFn (8 * k) f⌝ ∗ pt c arg15 f))

set_option maxHeartbeats 0
set_option maxRecDepth 10000

/-- One trip keeps the invariant. -/
theorem trip_step (v0 : EReal) (v1 : Vec Ideal S16x384 .bf16) (v2 : Vec Ideal S256x128 .bf16) (k : Fin k0_t1_loop.trips) (f4 : Bf (F := Ideal) c arg4) (f5 : Bf (F := Ideal) c arg5) :
    loopRes c arg4 arg5 arg6 arg7 arg10 arg11 arg12 arg13 arg14 arg15 v0 v1 v2 f4 f5 k.val
    ⊢ wp frame (wpE (defs₀ (F := Ideal)) 𝒱₀ (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k ())
      (fun _ => loopRes c arg4 arg5 arg6 arg7 arg10 arg11 arg12 arg13 arg14 arg15 v0 v1 v2 f4 f5 (k.val + 1)) := by
  unfold loopRes
  iintro ⟨H4, H5, ⟨%f6, %h6, H6⟩, ⟨%f7, %h7, H7⟩, ⟨%f10, H10⟩, ⟨%f11, H11⟩, ⟨%f12, H12⟩, ⟨%f13, H13⟩, ⟨%f14, %h14, H14⟩, ⟨%f15, %h15, H15⟩⟩
  have run := (tripRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v1 v2 k f4 f5 f6 f7 f10 f11 f12 f13 f14 f15).2
  rw [run_stores] at run
  iapply (wp_wand_r Idealize.ShloMosaic.frame (wpE (defs₀ (F := Ideal)) 𝒱₀ (c : Thread nD τ) none) Set.univ)
  isplitl [H4 H5 H6 H7 H10 H11 H12 H13 H14 H15]
  · iapply run
    isplitl [H4]; · iexact H4
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    iexact H15
  iintro %_ ⟨H4, H5, H6, H7, H10, H11, H12, H13, H14, H15⟩
  isplitl [H4]; · iexact H4
  isplitl [H5]; · iexact H5
  isplitl [H6]
  · iexists _
    isplitr [H6]
    · ipureintro
      exact fun Y K y hy => err_after c arg4 arg5 arg10 arg11 arg12 arg13 v0 v1 K.1 k f4 f5 f13 Y K.2.2 arg6 f6 (h6 Y K) y hy
    iexact H6
  isplitl [H7]
  · iexists _
    isplitr [H7]
    · ipureintro
      exact fun Y K y hy => byte_after c arg4 arg5 arg10 arg11 arg12 arg13 v0 v1 v2 K.1 K.2.1 k f4 f5 f13 Y K.2.2 arg7 f7 (h7 Y K) y hy
    iexact H7
  isplitl [H10]; · iexact H10
  isplitl [H11]; · iexact H11
  isplitl [H12]; · iexact H12
  isplitl [H13]; · iexact H13
  isplitl [H14]
  · iexists _
    isplitr [H14]
    · ipureintro
      exact fun Y K y hy => zero_after c arg4 arg5 arg11 arg12 v0 k f4 f5 Y K.2.2 arg14 f14 (h14 Y K) y hy
    iexact H14
  iexists _
  isplitr [H15]
  · ipureintro
    exact fun Y K y hy => scale_after c arg4 arg5 arg11 arg12 v0 k f4 f5 Y K.2.2 arg15 f15 (h15 Y K) y hy
  iexact H15

/-- The value of the scalar the body reads first, and its two matrices. -/
abbrev rd1 (f1 : Bf (F := Ideal) c arg1) : EReal := arg1.view.read (Elt Ideal) f1 (ix2 0 0)
abbrev rd2 (f2 : Bf (F := Ideal) c arg2) : Vec Ideal S16x384 .bf16 := arg2.view.read (Elt Ideal) f2
abbrev rd3 (f3 : Bf (F := Ideal) c arg3) : Vec Ideal S256x128 .bf16 := arg3.view.read (Elt Ideal) f3

def KnownAt (f1 : Bf (F := Ideal) c arg1) (f2 : Bf (F := Ideal) c arg2) (f3 : Bf (F := Ideal) c arg3) (f4 : Bf (F := Ideal) c arg4) (f5 : Bf (F := Ideal) c arg5) : (ℕ → EReal) → Prop :=
  Known c arg4 arg5 (rd1 c arg1 f1) (rd2 c arg2 f2) (rd3 c arg3 f3) f4 f5

/-- The block of zero points as bytes. -/
def zpFn (Y : ℕ → EReal) : S64x128.Idx → BitVec 8 := fun y => Spec.zp Y (128 * (y 0).val + (y 1).val)

/-- The body at one grid point. -/
theorem body_run (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15)
    ⊢ wp frame (wpE (defs₀ (F := Ideal)) 𝒱₀ (c : Thread nD τ) none) Set.univ (cc0_quant (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (fun _ => iprop(pt c arg1 f1 ∗ pt c arg2 f2 ∗ pt c arg3 f3 ∗ pt c arg4 f4 ∗ pt c arg5 f5
        ∗ (∃ f : Bf (F := Ideal) c arg6, ⌜Held (KnownAt c arg1 arg2 arg3 arg4 arg5 f1 f2 f3 f4 f5) arg6 errFn 4096 f⌝ ∗ pt c arg6 f)
        ∗ (∃ f : Bf (F := Ideal) c arg7, ⌜Held (KnownAt c arg1 arg2 arg3 arg4 arg5 f1 f2 f3 f4 f5) arg7 byteFn 2048 f⌝ ∗ pt c arg7 f)
        ∗ (∃ f : Bf (F := Ideal) c arg8, ⌜Held (KnownAt c arg1 arg2 arg3 arg4 arg5 f1 f2 f3 f4 f5) arg8 scaleFn 64 f⌝ ∗ pt c arg8 f)
        ∗ (∃ f : Bf (F := Ideal) c arg9, ⌜Held (KnownAt c arg1 arg2 arg3 arg4 arg5 f1 f2 f3 f4 f5) arg9 zpFn 64 f⌝ ∗ pt c arg9 f)
        ∗ (∃ f : Bf (F := Ideal) c arg10, pt c arg10 f) ∗ (∃ f : Bf (F := Ideal) c arg11, pt c arg11 f) ∗ (∃ f : Bf (F := Ideal) c arg12, pt c arg12 f) ∗ (∃ f : Bf (F := Ideal) c arg13, pt c arg13 f) ∗ (∃ f : Bf (F := Ideal) c arg14, pt c arg14 f) ∗ (∃ f : Bf (F := Ideal) c arg15, pt c arg15 f))) := by
  rw [cc0_quant_eq_skeleton]
  iintro ⟨H1, H2, H3, H4, H5, H6, H7, H8, H9, H10, H11, H12, H13, H14, H15⟩
  sl_unfold [cc0_quant_skel]
  sl_exec
  have e1 : body_run.sl.r c arg1 f1 = rd1 c arg1 f1 := by
    unfold body_run.sl.r
    refine (congrFun (readAt_all (n := 1) (a := 1) arg1.view inb_S1x1_S1x1_0_0 f1) _).trans (congrArg (arg1.view.read (Elt Ideal) f1) (funext fun j => Fin.ext ?_))
    have h : ∀ (x : S1x1.Idx) (j : Fin 2), (x j).val = 0 := fun x j => by
      match j with
      | ⟨0, _⟩ => have : (x 0).val < 1 := (x 0).isLt; exact Nat.lt_one_iff.1 this
      | ⟨1, _⟩ => have : (x 1).val < 1 := (x 1).isLt; exact Nat.lt_one_iff.1 this
    exact (h _ j).trans (h (ix2 0 0) j).symm
  have e2 : arg2.view.readAt (Elt Ideal) (Rect.unit (s := S16x384) ![0, 0] S16x384.size inb_S16x384_S16x384_0_0).toLoadRect f2 = rd2 c arg2 f2 := readAt_all (n := 16) (a := 384) arg2.view inb_S16x384_S16x384_0_0 f2
  have e3 : arg3.view.readAt (Elt Ideal) (Rect.unit (s := S256x128) ![0, 0] S256x128.size inb_S256x128_S256x128_0_0).toLoadRect f3 = rd3 c arg3 f3 := readAt_all (n := 256) (a := 128) arg3.view inb_S256x128_S256x128_0_0 f3
  rw [e1, e2, e3]
  sl_for (fun k _ => loopRes c arg4 arg5 arg6 arg7 arg10 arg11 arg12 arg13 arg14 arg15 (rd1 c arg1 f1) (rd2 c arg2 f2) (rd3 c arg3 f3) f4 f5 k) $$ [H4 H5 H6 H7 H10 H11 H12 H13 H14 H15]
  case region =>
    intro k _
    exact trip_step c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ k f4 f5
  · unfold loopRes
    isplitl [H4]; · iexact H4
    isplitl [H5]; · iexact H5
    isplitl [H6]
    · iexists f6
      isplitr [H6]
      · ipureintro; exact fun Y K y hy => absurd hy (by omega)
      iexact H6
    isplitl [H7]
    · iexists f7
      isplitr [H7]
      · ipureintro; exact fun Y K y hy => absurd hy (by omega)
      iexact H7
    isplitl [H10]; · iexists _; iexact H10
    isplitl [H11]; · iexists _; iexact H11
    isplitl [H12]; · iexists _; iexact H12
    isplitl [H13]; · iexists _; iexact H13
    isplitl [H14]
    · iexists f14
      isplitr [H14]
      · ipureintro; exact fun Y K y hy => absurd hy (by omega)
      iexact H14
    iexists f15
    isplitr [H15]
    · ipureintro; exact fun Y K y hy => absurd hy (by omega)
    iexact H15
  iintro %_ H
  unfold loopRes
  icases H with ⟨H4, H5, ⟨%g6, %h6, H6⟩, ⟨%g7, %h7, H7⟩, ⟨%g10, H10⟩, ⟨%g11, H11⟩, ⟨%g12, H12⟩, ⟨%g13, H13⟩, ⟨%g14, %h14, H14⟩, ⟨%g15, %h15, H15⟩⟩
  sl_exec
  sl_step
  have n8 : Scf.trips k0_t1_loop.lb k0_t1_loop.ub k0_t1_loop.st = 8 := by decide
  rw [n8] at h6 h7 h14 h15
  isplitl [H1]; · iexact H1
  isplitl [H2]; · iexact H2
  isplitl [H3]; · iexact H3
  isplitl [H4]; · iexact H4
  isplitl [H5]; · iexact H5
  isplitl [H6]
  · iexists g6
    isplitr [H6]
    · ipureintro; exact h6
    iexact H6
  isplitl [H7]
  · iexists g7
    isplitr [H7]
    · ipureintro; exact h7
    iexact H7
  isplitl [H8]
  · iexists _
    isplitr [H8]
    · ipureintro
      intro Y K y hy
      refine (stored_all (n := 64) (a := 128) arg8.view inb_S64x128_S64x128_0_0 f8 (k0_pay2 (F := Ideal) (arg15.view.readAt (Elt Ideal) (Rect.unit (s := S64x128) ![0, 0] S64x128.size inb_S64x128_S64x128_0_0).toLoadRect g15)) y).trans ?_
      have r15 := readAt_all (n := 64) (a := 128) arg15.view inb_S64x128_S64x128_0_0 g15
      exact (congrFun r15 y).trans (h15 Y K y hy)
    iexact H8
  isplitl [H9]
  · iexists _
    isplitr [H9]
    · ipureintro
      intro Y K y hy
      refine (stored_all (n := 64) (a := 128) arg9.view inb_S64x128_S64x128_0_0 f9 (k0_pay3 (F := Ideal) (arg14.view.readAt (Elt Ideal) (Rect.unit (s := S64x128) ![0, 0] S64x128.size inb_S64x128_S64x128_0_0).toLoadRect g14)) y).trans ?_
      have r14 := readAt_all (n := 64) (a := 128) arg14.view inb_S64x128_S64x128_0_0 g14
      refine (pay3_apply _ y).trans ?_
      exact congrArg (BitVec.setWidth 8) ((congrFun r14 y).trans (h14 Y K y hy))
    iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Body

end Cert.Proof.KernelIdeal

end
-- ==== Proof.SpreadWords.lean ====
/-
  The two constant matrices the kernel is handed: the spreading matrix and the packing matrix.
-/
module

public import proofs.«01_k».proof.Proof.TileValues
public import proofs.«01_k».proof.Proof.Gen.KernelIdeal.Frame

@[expose] public section

noncomputable section

namespace Cert.Proof.KernelIdeal

open Cert.KernelIdeal Cert.KernelIdeal.Gen Cert.Proof
open Idealize.ShloMosaic Idealize.ShloMosaic.TcCoe

set_option maxRecDepth 100000

/-- The words of the spreading matrix, entry by entry. -/
theorem spread_words : ∀ (k : Fin 16) (o : Fin 384), lit0 ⟨384 * k.val + o.val, by omega⟩ =
    if k.val / 8 = o.val % 128 / 64 ∧ (k.val % 8 = 0 ∧ o.val / 128 = 0 ∨ (1 ≤ k.val % 8 ∧ k.val % 8 ≤ 3) ∧ o.val / 128 = 1 ∨ k.val % 8 = 4 ∧ o.val / 128 = 2) then 0x3F80#16 else 0x0000#16 := by
  decide +kernel

end Cert.Proof.KernelIdeal

end
-- ==== Proof.PackWords.lean ====
/-
  The two constant matrices the kernel is handed: the spreading matrix and the packing matrix.
-/
module

public import proofs.«01_k».proof.Proof.TileValues
public import proofs.«01_k».proof.Proof.Gen.KernelIdeal.Frame

@[expose] public section

noncomputable section

namespace Cert.Proof.KernelIdeal

open Cert.KernelIdeal Cert.KernelIdeal.Gen Cert.Proof
open Idealize.ShloMosaic Idealize.ShloMosaic.TcCoe

set_option maxRecDepth 100000

set_option maxHeartbeats 0 in
/-- The words of rows `16 q` to `16 q + 15` of the packing matrix, entry by entry. -/
theorem pack_rows (q : Fin 16) : ∀ (k : Fin 16) (m : Fin 128), lit1 ⟨128 * (16 * q.val + k.val) + m.val, by omega⟩ =
    if 16 * q.val + k.val = 2 * m.val then 0x3F80#16 else if 16 * q.val + k.val = 2 * m.val + 1 then 0x4180#16 else 0x0000#16 := by
  fin_cases q <;> decide +kernel

/-- The words of the packing matrix, entry by entry. -/
theorem pack_words (k : Fin 256) (m : Fin 128) : lit1 ⟨128 * k.val + m.val, by omega⟩ =
    if k.val = 2 * m.val then 0x3F80#16 else if k.val = 2 * m.val + 1 then 0x4180#16 else 0x0000#16 := by
  have e : 16 * (k.val / 16) + k.val % 16 = k.val := by omega
  have h := pack_rows ⟨k.val / 16, by omega⟩ ⟨k.val % 16, by omega⟩ m
  simp only [e] at h
  exact h

end Cert.Proof.KernelIdeal

end
-- ==== Proof.Weights.lean ====
/-
  The two constant matrices the kernel is handed: the spreading matrix and the packing matrix.
-/
module

public import proofs.«01_k».proof.Proof.TileValues
public import proofs.«01_k».proof.Proof.SpreadWords
public import proofs.«01_k».proof.Proof.PackWords
public import proofs.«01_k».proof.Proof.Gen.KernelIdeal.Frame

@[expose] public section

noncomputable section

namespace Cert.Proof.KernelIdeal

open Cert.KernelIdeal Cert.KernelIdeal.Gen Cert.Proof
open Idealize.ShloMosaic Idealize.ShloMosaic.TcCoe

set_option maxRecDepth 100000

theorem ofBits_one : Ideal.ofBits .bf16 0x3F80#16 = 1 := by
  simp [Ideal.ofBits, Ideal.ieee, -EReal.coe_mul]; norm_num
theorem ofBits_zero : Ideal.ofBits .bf16 0x0000#16 = 0 := by
  simp [Ideal.ofBits, Ideal.ieee, -EReal.coe_mul]
theorem ofBits_16 : Ideal.ofBits .bf16 0x4180#16 = ((16 : ℝ) : EReal) := by
  simp [Ideal.ofBits, Ideal.ieee, -EReal.coe_mul]; norm_num

theorem isSpread : IsSpread (fun i => (FloatOps.ofBits .bf16 (lit0 (S16x384.rowMajor i)) : Ideal .bf16)) := by
  intro k o
  have e : S16x384.rowMajor (ix2 k o) = (⟨384 * k.val + o.val, by omega⟩ : Fin 6144) := Fin.ext ((Shape.rowMajor_val_two _).trans (by show k.val * 384 + o.val = 384 * k.val + o.val; omega))
  show Ideal.ofBits .bf16 (lit0 (S16x384.rowMajor (ix2 k o))) = _
  rw [e, spread_words k o]
  split_ifs
  · exact ofBits_one
  · exact ofBits_zero

theorem isPack : IsPack (fun i => (FloatOps.ofBits .bf16 (lit1 (S256x128.rowMajor i)) : Ideal .bf16)) := by
  intro k m
  have e : S256x128.rowMajor (ix2 k m) = (⟨128 * k.val + m.val, by omega⟩ : Fin 32768) := Fin.ext ((Shape.rowMajor_val_two _).trans (by show k.val * 128 + m.val = 128 * k.val + m.val; omega))
  show Ideal.ofBits .bf16 (lit1 (S256x128.rowMajor (ix2 k m))) = _
  rw [e, pack_words k m]
  split_ifs
  · exact ofBits_one
  · exact ofBits_16
  · exact ofBits_zero

variable (m : (ℓ : Loc nD τ sig) → Buf (Elt Ideal) ℓ) (c : Dev nD)

/-- The region finds the two matrices as the host wrote them. -/
theorem V_spread : (V m c main_cst : S16x384.Idx → Elt Ideal .bf16) = fun i => (FloatOps.ofBits .bf16 (lit0 (S16x384.rowMajor i)) : Ideal .bf16) := rfl
theorem V_pack : (V m c main_cst_0 : S256x128.Idx → Elt Ideal .bf16) = fun i => (FloatOps.ofBits .bf16 (lit1 (S256x128.rowMajor i)) : Ideal .bf16) := rfl

end Cert.Proof.KernelIdeal

end
-- ==== Proof.IdealBlocks.lean ====
/-
  What the pipeline hands the kernel's body at one grid point, and what that makes of the block: the input windows read
  through the argument arrays, and the elements of the block as a stretch of the whole element sequence.
-/
module

public import proofs.«01_k».proof.Proof.IdealRun
public import proofs.«01_k».proof.Proof.Weights
public import proofs.«01_k».proof.Proof.Gen.KernelIdeal.Launch
public import Idealize.ShloMosaic.Lib.Pipeline.Frame
public import Idealize.ShloMosaic.Lib.Pipeline.ValueKit

@[expose] public section

noncomputable section

namespace Cert.Proof.KernelIdeal

open Cert.KernelIdeal Cert.KernelIdeal.Gen Cert.Proof
open Idealize.ShloMosaic Idealize.ShloMosaic.TcCoe
open Idealize.ShloMosaic.Pipeline (Dat RDat Cfg Window)

variable (m : (ℓ : Loc nD τ sig) → Buf (Elt Ideal) ℓ) (c : Dev nD)

/-- The element at flat position `n` of the sequence that is quantised: the clipped gradient and the old error, added up. -/
def elem (a : EReal) (g e : S491520x128.Idx → EReal) (n : ℕ) : EReal :=
  if h : n / 128 < 491520 then
    a * g (ix2 (⟨n / 128, h⟩ : Fin 491520) (⟨n % 128, by omega⟩ : Fin 128)) + e (ix2 (⟨n / 128, h⟩ : Fin 491520) (⟨n % 128, by omega⟩ : Fin 128))
  else 0

/-- The kernel's element sequence, of its argument arrays. -/
def X : ℕ → EReal :=
  elem (m ((c : Thread nD τ).loc main_arg0) (ix2 (0 : Fin 1) (0 : Fin 1))) (m ((c : Thread nD τ).loc main_arg1)) (m ((c : Thread nD τ).loc main_arg2))

/-- The stretch of grid point `t`: 8192 blocks of 64 elements. -/
def part (t : ℕ) : ℕ → EReal := fun n => X m c (64 * (8192 * t) + n)

theorem elem_at (a : EReal) (g e : S491520x128.Idx → EReal) (r : Fin 491520) (l : Fin 128) :
    elem a g e (128 * r.val + l.val) = a * g (ix2 r l) + e (ix2 r l) := by
  have h : (128 * r.val + l.val) / 128 = r.val := by omega
  have h' : (128 * r.val + l.val) % 128 = l.val := by omega
  unfold elem
  rw [dif_pos (by omega)]
  have e1 : (⟨(128 * r.val + l.val) / 128, by omega⟩ : Fin 491520) = r := Fin.ext h
  have e2 : (⟨(128 * r.val + l.val) % 128, by omega⟩ : Fin 128) = l := Fin.ext h'
  rw [e1, e2]

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

/-- The clipping factor's window holds the factor. -/
theorem iblk0 (t : Fin cfg0.N) : iblk m c 0 t (ix2 (0 : Fin 1) (0 : Fin 1)) = m ((c : Thread nD τ).loc main_arg0) (ix2 (0 : Fin 1) (0 : Fin 1)) := by
  rw [← V_main_arg0 m c]
  unfold iblk
  show V m c main_arg0 (((cfg0.win 0).blk t).view.emb (ix2 (0 : Fin 1) (0 : Fin 1))) = _
  refine congrArg (V m c main_arg0) (funext fun i => Fin.ext ?_)
  have h0 : (((cfg0.win 0).blk t).view.emb (ix2 (0 : Fin 1) (0 : Fin 1)) 0).val = 0 := by
    blk_simp [index0]; rfl
  have h1 : (((cfg0.win 0).blk t).view.emb (ix2 (0 : Fin 1) (0 : Fin 1)) 1).val = 0 := by
    blk_simp [index0]; rfl
  match i with
  | ⟨0, _⟩ => exact h0
  | ⟨1, _⟩ => exact h1

/-- The spreading matrix's window holds the whole matrix. -/
theorem iblk1 (t : Fin cfg0.N) : (iblk m c 1 t : S16x384.Idx → EReal) = V m c main_cst := by
  funext x
  rw [eq_ix2 (n0 := 16) (n1 := 384) x]
  generalize (x 0 : Fin 16) = r
  generalize (x 1 : Fin 384) = l
  unfold iblk
  show V m c main_cst (((cfg0.win 1).blk t).view.emb (ix2 r l)) = _
  refine congrArg (V m c main_cst) (funext fun i => Fin.ext ?_)
  have h0 : (((cfg0.win 1).blk t).view.emb (ix2 r l) 0).val = r.val := by
    blk_simp [index1]
  have h1 : (((cfg0.win 1).blk t).view.emb (ix2 r l) 1).val = l.val := by
    blk_simp [index1]
  match i with
  | ⟨0, _⟩ => exact h0
  | ⟨1, _⟩ => exact h1

/-- The packing matrix's window holds the whole matrix. -/
theorem iblk2 (t : Fin cfg0.N) : (iblk m c 2 t : S256x128.Idx → EReal) = V m c main_cst_0 := by
  funext x
  rw [eq_ix2 (n0 := 256) (n1 := 128) x]
  generalize (x 0 : Fin 256) = r
  generalize (x 1 : Fin 128) = l
  unfold iblk
  show V m c main_cst_0 (((cfg0.win 2).blk t).view.emb (ix2 r l)) = _
  refine congrArg (V m c main_cst_0) (funext fun i => Fin.ext ?_)
  have h0 : (((cfg0.win 2).blk t).view.emb (ix2 r l) 0).val = r.val := by
    blk_simp [index2]
  have h1 : (((cfg0.win 2).blk t).view.emb (ix2 r l) 1).val = l.val := by
    blk_simp [index2]
  match i with
  | ⟨0, _⟩ => exact h0
  | ⟨1, _⟩ => exact h1

/-- The gradient's window holds the grid point's 4096 rows. -/
theorem iblk3 (t : Fin cfg0.N) (r : Fin 4096) (l : Fin 128) (h : 4096 * t.val + r.val < 491520) :
    iblk m c 3 t (ix2 r l) = m ((c : Thread nD τ).loc main_arg1) (ix2 (⟨4096 * t.val + r.val, h⟩ : Fin 491520) l) := by
  rw [← V_main_arg1 m c]
  unfold iblk
  show V m c main_arg1 (((cfg0.win 3).blk t).view.emb (ix2 r l)) = _
  refine congrArg (V m c main_arg1) (funext fun i => Fin.ext ?_)
  have h0 : (((cfg0.win 3).blk t).view.emb (ix2 r l) 0).val = 4096 * t.val + r.val := by
    blk_simp [index3]; omega
  have h1 : (((cfg0.win 3).blk t).view.emb (ix2 r l) 1).val = l.val := by
    blk_simp [index3]
  match i with
  | ⟨0, _⟩ => exact h0
  | ⟨1, _⟩ => exact h1

/-- The old error's window holds the grid point's 4096 rows. -/
theorem iblk4 (t : Fin cfg0.N) (r : Fin 4096) (l : Fin 128) (h : 4096 * t.val + r.val < 491520) :
    iblk m c 4 t (ix2 r l) = m ((c : Thread nD τ).loc main_arg2) (ix2 (⟨4096 * t.val + r.val, h⟩ : Fin 491520) l) := by
  rw [← V_main_arg2 m c]
  unfold iblk
  show V m c main_arg2 (((cfg0.win 4).blk t).view.emb (ix2 r l)) = _
  refine congrArg (V m c main_arg2) (funext fun i => Fin.ext ?_)
  have h0 : (((cfg0.win 4).blk t).view.emb (ix2 r l) 0).val = 4096 * t.val + r.val := by
    blk_simp [index4]; omega
  have h1 : (((cfg0.win 4).blk t).view.emb (ix2 r l) 1).val = l.val := by
    blk_simp [index4]
  match i with
  | ⟨0, _⟩ => exact h0
  | ⟨1, _⟩ => exact h1

/-- With the windows' contents in the staging buffers, the body works on the grid point's stretch of the sequence. -/
theorem known (t : Fin cfg0.N) (f0 : Bf (F := Ideal) c (st0_0 t)) (f1 : Bf (F := Ideal) c (st0_1 t)) (f2 : Bf (F := Ideal) c (st0_2 t)) (f3 : Bf (F := Ideal) c (st0_3 t)) (f4 : Bf (F := Ideal) c (st0_4 t))
    (h0 : (st0_0 t).view.read (Elt Ideal) f0 = iblk m c 0 t) (h1 : (st0_1 t).view.read (Elt Ideal) f1 = iblk m c 1 t) (h2 : (st0_2 t).view.read (Elt Ideal) f2 = iblk m c 2 t)
    (h3 : (st0_3 t).view.read (Elt Ideal) f3 = iblk m c 3 t) (h4 : (st0_4 t).view.read (Elt Ideal) f4 = iblk m c 4 t) :
    KnownAt c (st0_0 t) (st0_1 t) (st0_2 t) (st0_3 t) (st0_4 t) f0 f1 f2 f3 f4 (part m c t.val) := by
  unfold KnownAt Known
  refine ⟨?_, ?_, fun r l => ?_⟩
  · have e : rd2 c (st0_1 t) f1 = _ := h1.trans ((iblk1 m c t).trans (V_spread m c))
    rw [e]; exact isSpread
  · have e : rd3 c (st0_2 t) f2 = _ := h2.trans ((iblk2 m c t).trans (V_pack m c))
    rw [e]; exact isPack
  · have ht : t.val < 120 := t.isLt
    have hr : 4096 * t.val + r.val < 491520 := by omega
    have e0 : rd1 c (st0_0 t) f0 = _ := (congrFun h0 _).trans (iblk0 m c t)
    have e3 := (congrFun h3 (ix2 r l)).trans (iblk3 m c t r l hr)
    have e4 := (congrFun h4 (ix2 r l)).trans (iblk4 m c t r l hr)
    have hn : 64 * (8192 * t.val) + (128 * r.val + l.val) = 128 * (⟨4096 * t.val + r.val, hr⟩ : Fin 491520).val + l.val := by
      show _ = 128 * (4096 * t.val + r.val) + l.val
      omega
    rw [e0]
    refine (congrArg₂ (fun a b : EReal => _ * a + b) e3 e4).trans ?_
    unfold part X
    rw [hn, elem_at]

end Cert.Proof.KernelIdeal

end
-- ==== Proof.IdealBody.lean ====
/-
  The idealized kernel's run: the pipeline's proof data, with each result window at what the body leaves there, the body
  obligation at every grid point, what the result arrays hold at the end, and the launch.
-/
module

public import proofs.«01_k».proof.Proof.IdealBlocks

@[expose] public section

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data on core `c`: each array at its contents when the region is entered, each input block left in place,
each result block at the quantisation of the grid point's stretch of the sequence. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => errFn (part m c t.val) | ⟨6, _⟩ => byteFn (part m c t.val) | ⟨7, _⟩ => scaleFn (part m c t.val)
    | ⟨8, _⟩ => zpFn (part m c t.val)
  Φ _ := Pipeline.ΦA spec0 c
  q _ := fullShare
  owed _ := 0

theorem A_eq (c : Dev nD) (w : Fin cfg0.W) : (dats m 0 c).A w = V m c (Pipeline.arrRef spec0 w) := by
  dsimp only [dats]

theorem after5 (c : Dev nD) (t : Fin cfg0.N) : (dats m 0 c).after 5 t = errFn (part m c t.val) := rfl
theorem after6 (c : Dev nD) (t : Fin cfg0.N) : (dats m 0 c).after 6 t = byteFn (part m c t.val) := rfl
theorem after7 (c : Dev nD) (t : Fin cfg0.N) : (dats m 0 c).after 7 t = scaleFn (part m c t.val) := rfl
theorem after8 (c : Dev nD) (t : Fin cfg0.N) : (dats m 0 c).after 8 t = zpFn (part m c t.val) := rfl

/-- Contents whose every row is known read as the whole function. -/
theorem Held.read {n : ℕ} {sp : Space} {e : EltTy} {K : (ℕ → EReal) → Prop} {M : Memref sig .tc sp ⟨2, ![n, 128]⟩ e}
    {G : (ℕ → EReal) → (⟨2, ![n, 128]⟩ : Shape).Idx → Elt Ideal e} {f : M.view.ty.Contents (Elt Ideal)} (h : Held K M G n f)
    {Y : ℕ → EReal} (hY : K Y) : M.view.read (Elt Ideal) f = G Y :=
  funext fun y => h Y hY y (y 0).isLt

/-- A scratch buffer of the kernel, held through its whole memref. -/
theorem pt_whole (c : Dev nD) (b : Ref sig .tc) (f : Buf (Elt Ideal) ((c : Thread nD τ).loc b)) :
    (pt c (Memref.whole b) f : sProp 𝕄) = ((c : Thread nD τ).loc b ↦{fullShare} f) := by
  unfold pt; simp only [Memref.view_whole, View.set_whole]

/-- The kernel the pipeline calls at point `t` is the printed body on the point's staging buffers. -/
theorem defs₀_row (t : Fin cfg0.N) : defs₀ (F := Ideal) .tc cfg0.body (cfg0.bodyArgs t (cfg0.slots t)) = Gen.bodyAt0 t := by
  unfold defs₀; rw [Defs.onTc_tc]

set_option maxHeartbeats 0 in
theorem body_obligation (c : Dev nD) : BodyObligationLoose (dats m 0 c) (defs₀ (F := Ideal)) 𝒱₀ () Set.univ := fun t => by
  rw [bigSep_W0, bigSep_W0, defs₀_row]
  rw [show (dats m 0 c).Φ t.castSucc = Pipeline.ΦA spec0 c from rfl, show (dats m 0 c).Φ t.succ = Pipeline.ΦA spec0 c from rfl]
  unfold Pipeline.ΦA
  rw [scopedRest0_eq]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl)]
  simp only [← pt_whole]
  unfold owns Dat.owesAt Pipeline.owesWithin
  iintro ⟨⟨⟨⟨%s0, S0⟩, ⟨%s1, S1⟩, ⟨%s2, S2⟩, ⟨%s3, S3⟩, ⟨%s4, S4⟩, ⟨%s5, S5⟩⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  iapply (wp_wand_r Idealize.ShloMosaic.frame (wpE (defs₀ (F := Ideal)) 𝒱₀ (c : Thread nD τ) none) Set.univ)
  isplitl [H0 H1 H2 H3 H4 H5 H6 H7 H8 S0 S1 S2 S3 S4 S5]
  · iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 s0 s1 s2 s3 s4 s5)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    iexact S5
  iintro %_ ⟨H0, H1, H2, H3, H4, ⟨%g5, %h5, H5⟩, ⟨%g6, %h6, H6⟩, ⟨%g7, %h7, H7⟩, ⟨%g8, %h8, H8⟩, ⟨%u0, S0⟩, ⟨%u1, S1⟩, ⟨%u2, S2⟩, ⟨%u3, S3⟩, ⟨%u4, S4⟩, ⟨%u5, S5⟩⟩
  have hK := known m c t f0 f1 f2 f3 f4 hf0 hf1 hf2 hf3 hf4
  isplitl [S0 S1 S2 S3 S4 S5 Hr]
  · isplitr [Hr]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hr
  isplitl [HO]
  · iexists W; isplitr
    · ipureintro; exact hW
    iexact HO
  isplitl [H0]
  · iexists f0; isplitr
    · ipureintro; exact hf0
    iexact H0
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists g5; isplitr
    · ipureintro; exact (h5.read hK).trans (after5 m c t).symm
    iexact H5
  isplitl [H6]
  · iexists g6; isplitr
    · ipureintro; exact (h6.read hK).trans (after6 m c t).symm
    iexact H6
  isplitl [H7]
  · iexists g7; isplitr
    · ipureintro; exact (h7.read hK).trans (after7 m c t).symm
    iexact H7
  iexists g8; isplitr
  · ipureintro; exact (h8.read hK).trans (after8 m c t).symm
  iexact H8

end Cert.Proof.KernelIdeal

end
-- ==== Proof.IdealLaunch.lean ====
/-
  What the idealized kernel's result arrays hold after its run: the quantisation of the whole element sequence; and the run.
-/
module

public import proofs.«01_k».proof.Proof.IdealBody

@[expose] public section

noncomputable section

namespace Cert.Proof.KernelIdeal

open Cert.KernelIdeal Cert.KernelIdeal.Gen Cert.Proof
open Idealize.ShloMosaic Idealize.ShloMosaic.TcCoe
open Idealize.SL.Sem
open Idealize.ShloMosaic.Pipeline (Dat RDat Cfg Window FramePost)

variable (m : (ℓ : Loc nD τ sig) → Buf (Elt Ideal) ℓ) (ρ : Dev nD → PrngReg)

/-- The four result arrays, of a sequence of elements. -/
def errArr (x : ℕ → EReal) : S491520x128.Idx → EReal := fun y => Spec.err x (128 * (y 0).val + (y 1).val)
def codeArr (x : ℕ → EReal) : S245760x128.Idx → BitVec 8 := fun y => Spec.code x (128 * (y 0).val + (y 1).val)
def scaleArr (x : ℕ → EReal) : S7680x128.Idx → EReal := fun y => Spec.s x (128 * (y 0).val + (y 1).val)
def zpArr (x : ℕ → EReal) : S7680x128.Idx → BitVec 8 := fun y => Spec.zp x (128 * (y 0).val + (y 1).val)

theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

variable (c : Dev nD)

theorem part_spec (t n : ℕ) (hn : n < 64 * 8192) : part m c t n = X m c (64 * (8192 * t) + n) := rfl

/-- The new error's array. -/
theorem final5 : (dats m 0 c).arrAt 5 cfg0.N = errArr (X m c) := by
  refine (dats m 0 c).arrAt_eq_of_covers 5 _ (by decide +kernel) fun t hf y => ?_
  blk_simp
  rw [after5]
  unfold errFn errArr
  idx_bounds y
  refine (Spec.err_shift (X m c) (part m c t.val) 8192 (8192 * t.val) (part_spec m c t.val) _ (by omega)).trans (congrArg (Spec.err (X m c)) ?_)
  blk_simp [index5]
  omega

/-- The codes' array. -/
theorem final6 : (dats m 0 c).arrAt 6 cfg0.N = codeArr (X m c) := by
  refine (dats m 0 c).arrAt_eq_of_covers 6 _ (by decide +kernel) fun t hf y => ?_
  blk_simp
  rw [after6]
  unfold byteFn codeArr
  idx_bounds y
  refine (Spec.code_shift (X m c) (part m c t.val) 8192 (8192 * t.val) (part_spec m c t.val) _ (by omega)).trans (congrArg (Spec.code (X m c)) ?_)
  blk_simp [index6]
  omega

/-- The scales' array. -/
theorem final7 : (dats m 0 c).arrAt 7 cfg0.N = scaleArr (X m c) := by
  refine (dats m 0 c).arrAt_eq_of_covers 7 _ (by decide +kernel) fun t hf y => ?_
  blk_simp
  rw [after7]
  unfold scaleFn scaleArr
  idx_bounds y
  refine (Spec.s_shift (X m c) (part m c t.val) 8192 (8192 * t.val) (part_spec m c t.val) _ (by omega)).trans (congrArg (Spec.s (X m c)) ?_)
  blk_simp [index7]
  omega

/-- The zero points' array. -/
theorem final8 : (dats m 0 c).arrAt 8 cfg0.N = zpArr (X m c) := by
  refine (dats m 0 c).arrAt_eq_of_covers 8 _ (by decide +kernel) fun t hf y => ?_
  blk_simp
  rw [after8]
  unfold zpFn zpArr
  idx_bounds y
  refine (Spec.zp_shift (X m c) (part m c t.val) 8192 (8192 * t.val) (part_spec m c t.val) _ (by omega)).trans (congrArg (Spec.zp (X m c)) ?_)
  blk_simp [index8]
  omega

/-- THE RUN: it terminates without a fault; the result arrays hold the quantisation of the element sequence, the argument
arrays end as they began, and every counter ends at zero. -/
theorem run : θ_run (defs (F := Ideal)) (onTc (τ := τ) (main (F := Ideal))) ⟨m, fun _ => 0, ρ⟩ (fun r => (∀ c : Dev nD,
      r.2.mem ((c.tc : Thread nD τ).loc main_v0_0) = errArr (X m c)
      ∧ r.2.mem ((c.tc : Thread nD τ).loc main_v0_1) = codeArr (X m c)
      ∧ r.2.mem ((c.tc : Thread nD τ).loc main_v0_2) = scaleArr (X m c)
      ∧ r.2.mem ((c.tc : Thread nD τ).loc main_v0_3) = zpArr (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_frame cfgs (dats m) 0 Gen.launch0 defs₀ 𝒱₀ m ρ main (body_obligation m)
    (fun c => (dats m 0 c).share_full fun _ => rfl) (fun _ _ => rfl) (Gen.V m) (Gen.hmain m 𝒱₀) (A_eq m) (fun _ _ => rfl) _ ?_
  intro r h
  refine ⟨fun c => ⟨?_, ?_, ?_, ?_, ?_, ?_, ?_⟩, h.2⟩
  · exact (FramePost.out_eq h.1 c 5).trans (final5 m c)
  · exact (FramePost.out_eq h.1 c 6).trans (final6 m c)
  · exact (FramePost.out_eq h.1 c 7).trans (final7 m c)
  · exact (FramePost.out_eq h.1 c 8).trans (final8 m c)
  · exact (FramePost.in_eq h.1 c 0 rfl).trans ((A_eq m c 0).trans (Gen.V_main_arg0 m c))
  · exact (FramePost.in_eq h.1 c 3 rfl).trans ((A_eq m c 3).trans (Gen.V_main_arg1 m c))
  · exact (FramePost.in_eq h.1 c 4 rfl).trans ((A_eq m c 4).trans (Gen.V_main_arg2 m c))

end Cert.Proof.KernelIdeal

end
-- ==== Proof.RefValues.lean ====
/-
  What the reference computes: the quantisation of the whole element sequence, result by result.
-/
module

public import proofs.«01_k».proof.Proof.Spec
public import proofs.«01_k».proof.Proof.Gen.ReferenceIdeal.Run
public import Idealize.ShloMosaic.Lib.Pointwise
public import Idealize.ShloMosaic.Lib.Pipeline.Value

@[expose] public section

noncomputable section

namespace Cert.Proof.Ref

open Cert.ReferenceIdeal Cert.ReferenceIdeal.Gen Cert.ReferenceIdeal.Value Cert.Proof
open Idealize.ShloMosaic Idealize.ShloMosaic.TcCoe

/-- The array of blocks, of the three arguments. -/
def blocks (a : S1x1.Idx → Ideal .f32) (g : S491520x128.Idx → Ideal .bf16) (e : S491520x128.Idx → Ideal .f32) : S983040x64.Idx → Ideal .f32 :=
  addf (mulf (broadcastInDim S983040x64 ![] bcast_S_S983040x64 (shapeCast _ a shapeCasts_S1x1_S_)) (shapeCast _ (extf .f32 g bitsLt_bf16_f32) shapeCasts_S491520x128_S983040x64)) (shapeCast _ e shapeCasts_S491520x128_S983040x64)

/-- A value per block, repeated for each element of the block. -/
def spread (v : S983040.Idx → Ideal .f32) : S983040x64.Idx → Ideal .f32 :=
  broadcastInDim S983040x64 ![0, 1] bcast_S983040x1_S983040x64_0_1 (broadcastInDim S983040x1 ![0] bcast_S983040_S983040x1_0 v)
/-- Largest and smallest element of each block, as the reference writes them. -/
def rmax (xb : S983040x64.Idx → Ideal .f32) : S983040.Idx → Ideal .f32 := Host.reduce FloatOps.maximumf xb (constant S_ .f32 0xFF800000#32) reducesTo_S983040x64_S983040_d1 h_S_
def rmin (xb : S983040x64.Idx → Ideal .f32) : S983040.Idx → Ideal .f32 := Host.reduce FloatOps.minimumf xb (constant S_ .f32 0x7F800000#32) reducesTo_S983040x64_S983040_d1 h_S_
/-- Scale, from largest and smallest element. -/
def scaleV (M N : S983040.Idx → Ideal .f32) : S983040.Idx → Ideal .bf16 :=
  truncf .bf16 (select (cmpf .oeq M N) (broadcastInDim S983040 ![] bcast_S_S983040 (id (constant S_ .f32 0x3F800000#32))) (Host.divf (mulf (subf M N) (broadcastInDim S983040 ![] bcast_S_S983040 (constant S_ .f32 0x3F800800#32))) (broadcastInDim S983040 ![] bcast_S_S983040 (constant S_ .f32 0x41700000#32)))) bitsLt_bf16_f32
/-- Zero point, from smallest element and scale. -/
def zeroV (N : S983040.Idx → Ideal .f32) (s : S983040.Idx → Ideal .bf16) : S983040.Idx → Ideal .f32 :=
  minimumf (broadcastInDim S983040 ![] bcast_S_S983040 (sitofp .f32 (constantI S_ 32 15#32))) (maximumf (broadcastInDim S983040 ![] bcast_S_S983040 (sitofp .f32 (constantI S_ 32 0#32))) (Host.roundeven (Host.divf (Host.negf N) (extf .f32 s bitsLt_bf16_f32))))
/-- Level, from the elements, scale and zero point. -/
def levelV (xb : S983040x64.Idx → Ideal .f32) (s : S983040.Idx → Ideal .bf16) (z : S983040.Idx → Ideal .f32) : S983040x64.Idx → Ideal .f32 :=
  minimumf (broadcastInDim S983040x64 ![] bcast_S_S983040x64 (sitofp .f32 (constantI S_ 32 15#32))) (maximumf (broadcastInDim S983040x64 ![] bcast_S_S983040x64 (sitofp .f32 (constantI S_ 32 0#32))) (addf (Host.roundeven (Host.divf xb (spread (extf .f32 s bitsLt_bf16_f32)))) (spread z)))
/-- The packed bytes, from the levels as integers. -/
def codeV (w : S983040x64.Idx → BitVec 32) : S983040x32.Idx → BitVec 8 :=
  trunci 8 (ori (Host.slice S983040x32 ![0, 0] ![1, 2] w slicesBy_S983040x64_S983040x32_0s1_0s2) (Host.shli (Host.slice S983040x32 ![0, 1] ![1, 2] w slicesBy_S983040x64_S983040x32_0s1_1s2) (broadcastInDim S983040x32 ![] bcast_S_S983040x32 (constantI S_ 32 4#32)))) natLt_8_32
/-- The new error, from the elements, levels, scale and zero point. -/
def errV (xb : S983040x64.Idx → Ideal .f32) (w : S983040x64.Idx → BitVec 32) (zw : S983040.Idx → BitVec 32) (s : S983040.Idx → Ideal .bf16) : S983040x64.Idx → Ideal .f32 :=
  subf xb (mulf (subf (sitofp .f32 w) (spread (sitofp .f32 zw))) (spread (extf .f32 s bitsLt_bf16_f32)))
/-- The zero points as bytes. -/
def zpV (zw : S983040.Idx → BitVec 32) : S983040.Idx → BitVec 8 := trunci 8 zw natLt_8_32

/-- Scale, zero point and level of an array of blocks. -/
def rscale (xb : S983040x64.Idx → Ideal .f32) : S983040.Idx → Ideal .bf16 := scaleV (rmax xb) (rmin xb)
def rzero (xb : S983040x64.Idx → Ideal .f32) : S983040.Idx → Ideal .f32 := zeroV (rmin xb) (rscale xb)
def rlevel (xb : S983040x64.Idx → Ideal .f32) : S983040x64.Idx → Ideal .f32 := levelV xb (rscale xb) (rzero xb)
def rerr (xb : S983040x64.Idx → Ideal .f32) : S983040x64.Idx → Ideal .f32 := errV xb (fptosi 32 (rlevel xb)) (fptosi 32 (rzero xb)) (rscale xb)
def rcode (xb : S983040x64.Idx → Ideal .f32) : S983040x32.Idx → BitVec 8 := codeV (fptosi 32 (rlevel xb))
def rzp (xb : S983040x64.Idx → Ideal .f32) : S983040.Idx → BitVec 8 := zpV (fptosi 32 (rzero xb))

section
variable (m : (ℓ : Loc nD τ sig) → Buf (Elt Ideal) ℓ) (c : Dev nD)
/-- The array of blocks of a launch. -/
def blk : S983040x64.Idx → Ideal .f32 := blocks (m ((c.tc : Thread nD τ).loc main_arg0)) (m ((c.tc : Thread nD τ).loc main_arg1)) (m ((c.tc : Thread nD τ).loc main_arg2))
set_option maxRecDepth 8192
theorem out0_eq : (res_main_v47 m c : S491520x128.Idx → Ideal .f32) = shapeCast _ (rerr (blk m c)) shapeCasts_S983040x64_S491520x128 := by
  unfold res_main_v47; rfl
theorem out1_eq : (res_main_v48 m c : S245760x128.Idx → BitVec 8) = shapeCast _ (rcode (blk m c)) shapeCasts_S983040x32_S245760x128 := by
  unfold res_main_v48; rfl
end

/-! ## Read at an index -/

theorem spread_apply (v : S983040.Idx → Ideal .f32) (b : Fin 983040) (i : Fin 64) : spread v (ix2 b i) = v (ix1 b) := by
  unfold spread
  pointwise

theorem sitofp_15 : (FloatOps.sitofp .f32 15#32 : Ideal .f32) = ((15 : ℝ) : EReal) := by
  show ((((15#32 : BitVec 32).toInt : ℤ) : ℝ) : EReal) = _
  rw [show (15#32 : BitVec 32).toInt = 15 by decide]; norm_num
theorem sitofp_0 : (FloatOps.sitofp .f32 0#32 : Ideal .f32) = (0 : EReal) := by
  show ((((0#32 : BitVec 32).toInt : ℤ) : ℝ) : EReal) = _
  rw [show (0#32 : BitVec 32).toInt = 0 by decide]; norm_num
/-- A small natural number, as a 32-bit integer and back. -/
theorem sitofp_nat {j : ℕ} (hj : j ≤ 15) : (FloatOps.sitofp .f32 (Ideal.fptosi 32 ((j : ℝ) : EReal)) : Ideal .f32) = ((j : ℝ) : EReal) := by
  rw [Spec.fptosi_nat (by omega)]
  show ((((BitVec.ofNat 32 j).toInt : ℤ) : ℝ) : EReal) = _
  rw [show (BitVec.ofNat 32 j).toInt = (j : ℤ) from (by decide : ∀ i : Fin 16, (BitVec.ofNat 32 i.val).toInt = (i.val : ℤ)) ⟨j, by omega⟩]
  norm_num

theorem scaleV_apply (M N : S983040.Idx → Ideal .f32) (b : Fin 983040) : scaleV M N (ix1 b) = Spec.scale (M (ix1 b)) (N (ix1 b)) := by
  unfold scaleV
  pointwise
  rw [Spec.ofBits_15]
  have e : (id (constant (F := Ideal) S_ .f32 0x3F800000#32) ix0 : EReal) = 1 := Ideal.ofBits_one_f32
  rw [e]
  rfl
theorem zeroV_apply (N : S983040.Idx → Ideal .f32) (s : S983040.Idx → Ideal .bf16) (b : Fin 983040) : zeroV N s (ix1 b) = Spec.zero (N (ix1 b)) (s (ix1 b)) := by
  unfold zeroV
  pointwise
  rw [sitofp_15, sitofp_0]
  rfl
theorem levelV_apply (xb : S983040x64.Idx → Ideal .f32) (s : S983040.Idx → Ideal .bf16) (z : S983040.Idx → Ideal .f32) (b : Fin 983040) (i : Fin 64) :
    levelV xb s z (ix2 b i) = Spec.level (xb (ix2 b i)) (s (ix1 b)) (z (ix1 b)) := by
  unfold levelV
  pointwise
  rw [sitofp_15, sitofp_0, spread_apply, spread_apply]
  rfl
theorem codeV_apply (w : S983040x64.Idx → BitVec 32) (b : Fin 983040) (j : Fin 32) :
    codeV w (ix2 b j) = (w (ix2 b (⟨2 * j.val, by omega⟩ : Fin 64)) ||| (w (ix2 b (⟨2 * j.val + 1, by omega⟩ : Fin 64)) <<< 4)).setWidth 8 := by
  unfold codeV
  pointwise
  have e : (⟨1 + 2 * j.val, by omega⟩ : Fin 64) = ⟨2 * j.val + 1, by omega⟩ := Fin.ext (Nat.add_comm _ _)
  rw [e]
  rfl
theorem errV_apply (xb : S983040x64.Idx → Ideal .f32) (w : S983040x64.Idx → BitVec 32) (zw : S983040.Idx → BitVec 32) (s : S983040.Idx → Ideal .bf16) (b : Fin 983040) (i : Fin 64) :
    (errV xb w zw s (ix2 b i) : EReal) = (xb (ix2 b i) : EReal) - (FloatOps.sitofp (F := Ideal) .f32 (w (ix2 b i)) - FloatOps.sitofp (F := Ideal) .f32 (zw (ix1 b)) : EReal) * (s (ix1 b) : EReal) := by
  unfold errV
  pointwise
  rw [spread_apply, spread_apply]
  rfl
theorem zpV_apply (zw : S983040.Idx → BitVec 32) (b : Fin 983040) : zpV zw (ix1 b) = (zw (ix1 b)).setWidth 8 := by
  unfold zpV
  pointwise

theorem lift_eq (h : S983040x64.Reduces [1] S983040) (b : Fin 983040) (i : Fin 64) : h.lift (ix1 b) i = ix2 b i := by
  funext a
  refine Fin.ext ?_
  match a with
  | ⟨0, _⟩ => rfl
  | ⟨1, _⟩ => rfl

theorem rmax_apply (xb : S983040x64.Idx → Ideal .f32) (x : ℕ → EReal) (b : Fin 983040) (hx : ∀ i : Fin 64, xb (ix2 b i) = x (64 * b.val + i.val)) : rmax xb (ix1 b) = Spec.mx x b.val := by
  unfold rmax
  refine (Host.reduce_eq_fold_single (s := S983040x64) (a := 1) (t := S983040) (u := S_) (FloatOps.maximumf (F := Ideal) (φ := .f32)) xb _ reducesTo_S983040x64_S983040_d1 (by decide) h_S_ (ix1 b)).trans ?_
  have e : (constant (F := Ideal) S_ .f32 0xFF800000#32 (Shape.Idx.first h_S_) : EReal) = ⊥ := Spec.ofBits_bot
  rw [e]
  refine Eq.trans ?_ (Spec.sup_fin (n := 64) fun i => x (64 * b.val + i))
  exact Finset.fold_congr fun i _ => (congrArg xb (lift_eq _ b i)).trans (hx i)
theorem rmin_apply (xb : S983040x64.Idx → Ideal .f32) (x : ℕ → EReal) (b : Fin 983040) (hx : ∀ i : Fin 64, xb (ix2 b i) = x (64 * b.val + i.val)) : rmin xb (ix1 b) = Spec.mn x b.val := by
  unfold rmin
  refine (Host.reduce_eq_fold_single (s := S983040x64) (a := 1) (t := S983040) (u := S_) (FloatOps.minimumf (F := Ideal) (φ := .f32)) xb _ reducesTo_S983040x64_S983040_d1 (by decide) h_S_ (ix1 b)).trans ?_
  have e : (constant (F := Ideal) S_ .f32 0x7F800000#32 (Shape.Idx.first h_S_) : EReal) = ⊤ := Spec.ofBits_top
  rw [e]
  refine Eq.trans ?_ (Spec.inf_fin (n := 64) fun i => x (64 * b.val + i))
  exact Finset.fold_congr fun i _ => (congrArg xb (lift_eq _ b i)).trans (hx i)

/-! ## The results, of an array of blocks that is a flat sequence -/
section
variable (xb : S983040x64.Idx → Ideal .f32) (x : ℕ → EReal) (hx : ∀ (b : Fin 983040) (i : Fin 64), xb (ix2 b i) = x (64 * b.val + i.val))
include hx

theorem rscale_apply (b : Fin 983040) : rscale xb (ix1 b) = Spec.s x b.val := by
  unfold rscale Spec.s
  rw [scaleV_apply, rmax_apply xb x b (hx b), rmin_apply xb x b (hx b)]
theorem rzero_apply (b : Fin 983040) : rzero xb (ix1 b) = Spec.z x b.val := by
  unfold rzero Spec.z
  rw [zeroV_apply, rmin_apply xb x b (hx b), rscale_apply xb x hx b]
theorem rlevel_apply (b : Fin 983040) (i : Fin 64) : rlevel xb (ix2 b i) = Spec.u x (64 * b.val + i.val) := by
  have e : (64 * b.val + i.val) / 64 = b.val := by omega
  unfold rlevel Spec.u
  rw [levelV_apply, rscale_apply xb x hx b, rzero_apply xb x hx b, hx b i, e]
theorem rzp_apply (b : Fin 983040) : rzp xb (ix1 b) = Spec.zp x b.val := by
  unfold rzp Spec.zp
  rw [zpV_apply]
  exact congrArg (fun e : EReal => (Ideal.fptosi 32 e).setWidth 8) (rzero_apply xb x hx b)
theorem rcode_apply (b : Fin 983040) (j : Fin 32) : rcode xb (ix2 b j) = Spec.code x (32 * b.val + j.val) := by
  unfold rcode Spec.code
  rw [codeV_apply]
  have e0 := rlevel_apply xb x hx b ⟨2 * j.val, by omega⟩
  have e1 := rlevel_apply xb x hx b ⟨2 * j.val + 1, by omega⟩
  rw [show 2 * (32 * b.val + j.val) = 64 * b.val + 2 * j.val by omega, show 64 * b.val + 2 * j.val + 1 = 64 * b.val + (2 * j.val + 1) by omega]
  exact congrArg₂ (fun u v : EReal => (Ideal.fptosi 32 u ||| (Ideal.fptosi 32 v <<< 4)).setWidth 8) e0 e1
theorem rerr_apply (b : Fin 983040) (i : Fin 64) : rerr xb (ix2 b i) = Spec.err x (64 * b.val + i.val) := by
  have e : (64 * b.val + i.val) / 64 = b.val := by omega
  unfold rerr Spec.err
  rw [errV_apply, hx b i, rscale_apply xb x hx b, e]
  have eu : fptosi 32 (rlevel xb) (ix2 b i) = Ideal.fptosi 32 (Spec.u x (64 * b.val + i.val)) := congrArg (Ideal.fptosi 32) (rlevel_apply xb x hx b i)
  have ez : fptosi 32 (rzero xb) (ix1 b) = Ideal.fptosi 32 (Spec.z x b.val) := congrArg (Ideal.fptosi 32) (rzero_apply xb x hx b)
  rw [eu, ez]
  obtain ⟨j, hj, hu⟩ := Spec.u_nat x (64 * b.val + i.val)
  obtain ⟨k, hk, hz⟩ := Spec.zero_nat (Spec.mn x b.val) (Spec.s x b.val)
  have hz' : Spec.z x b.val = ((k : ℝ) : EReal) := hz
  rw [hu, hz', sitofp_nat hj, sitofp_nat hk]
end

/-- An element of the array of blocks, by its place in the argument arrays. -/
theorem blocks_apply (a : S1x1.Idx → Ideal .f32) (g : S491520x128.Idx → Ideal .bf16) (e : S491520x128.Idx → Ideal .f32) (b : Fin 983040) (i : Fin 64) :
    (blocks a g e (ix2 b i) : EReal) = (a (ix2 (0 : Fin 1) (0 : Fin 1)) : EReal) * (g (ix2 (⟨b.val / 2, by omega⟩ : Fin 491520) (⟨b.val % 2 * 64 + i.val, by omega⟩ : Fin 128)) : EReal)
      + (e (ix2 (⟨b.val / 2, by omega⟩ : Fin 491520) (⟨b.val % 2 * 64 + i.val, by omega⟩ : Fin 128)) : EReal) := by
  unfold blocks
  pointwise

/-! ## The results as they are laid out -/

theorem errOut_apply (v : S983040x64.Idx → Ideal .f32) (r : Fin 491520) (l : Fin 128) :
    shapeCast S491520x128 v shapeCasts_S983040x64_S491520x128 (ix2 r l) = v (ix2 (⟨2 * r.val + l.val / 64, by omega⟩ : Fin 983040) (⟨l.val % 64, by omega⟩ : Fin 64)) :=
  shapeCast_apply _ _ _ _ (by
    rw [Shape.rowMajor_val_two, Shape.rowMajor_val_two]
    show (2 * r.val + l.val / 64) * 64 + l.val % 64 = r.val * 128 + l.val
    omega)
theorem codeOut_apply (v : S983040x32.Idx → BitVec 8) (r : Fin 245760) (l : Fin 128) :
    shapeCast S245760x128 v shapeCasts_S983040x32_S245760x128 (ix2 r l) = v (ix2 (⟨4 * r.val + l.val / 32, by omega⟩ : Fin 983040) (⟨l.val % 32, by omega⟩ : Fin 32)) :=
  shapeCast_apply _ _ _ _ (by
    rw [Shape.rowMajor_val_two, Shape.rowMajor_val_two]
    show (4 * r.val + l.val / 32) * 32 + l.val % 32 = r.val * 128 + l.val
    omega)
theorem blockOut_apply {α : Type} (v : S983040.Idx → α) (r : Fin 7680) (l : Fin 128) :
    shapeCast S7680x128 v shapeCasts_S983040_S7680x128 (ix2 r l) = v (ix1 (⟨128 * r.val + l.val, by omega⟩ : Fin 983040)) :=
  shapeCast_apply _ _ _ _ (by
    rw [Shape.rowMajor_val_two, Shape.rowMajor_val_one]
    show 128 * r.val + l.val = r.val * 128 + l.val
    omega)

end Cert.Proof.Ref

end
-- ==== Proof.Agree.lean ====
/-
  The reference's results are the kernel's: both are the quantisation of one element sequence.
-/
module

public import proofs.«01_k».proof.Proof.IdealLaunch
public import proofs.«01_k».proof.Proof.RefValues

@[expose] public section

noncomputable section

namespace Cert.Proof.Agree

open Cert.Proof Cert.Proof.KernelIdeal
open Idealize.ShloMosaic Idealize.ShloMosaic.TcCoe
open Idealize.SL.Sem

/-- The reference's array of blocks is the flat sequence, 64 elements a block. -/
theorem blocks_flat (a : Cert.ReferenceIdeal.S1x1.Idx → EReal) (g e : Cert.ReferenceIdeal.S491520x128.Idx → EReal) (b : Fin 983040) (i : Fin 64) :
    (Ref.blocks a g e (ix2 b i) : EReal) = elem (a (ix2 (0 : Fin 1) (0 : Fin 1))) g e (64 * b.val + i.val) := by
  rw [Ref.blocks_apply]
  have h := elem_at (a (ix2 (0 : Fin 1) (0 : Fin 1))) g e (⟨b.val / 2, by omega⟩ : Fin 491520) (⟨b.val % 2 * 64 + i.val, by omega⟩ : Fin 128)
  have hn : 128 * (b.val / 2) + (b.val % 2 * 64 + i.val) = 64 * b.val + i.val := by omega
  simp only [hn] at h
  exact h.symm

section
variable (xb : Cert.ReferenceIdeal.S983040x64.Idx → Ideal .f32) (x : ℕ → EReal) (hx : ∀ (b : Fin 983040) (i : Fin 64), xb (ix2 b i) = x (64 * b.val + i.val))
include hx

theorem err_eq : (shapeCast _ (Ref.rerr xb) Cert.ReferenceIdeal.Facts₀.shapeCasts_S983040x64_S491520x128 : Cert.ReferenceIdeal.S491520x128.Idx → EReal) = errArr x := by
  funext y
  rw [eq_ix2 (n0 := 491520) (n1 := 128) y]
  generalize (y 0 : Fin 491520) = r
  generalize (y 1 : Fin 128) = l
  refine (Ref.errOut_apply _ r l).trans ((Ref.rerr_apply xb x hx _ _).trans (congrArg (Spec.err x) ?_))
  show 64 * (2 * r.val + l.val / 64) + l.val % 64 = 128 * r.val + l.val
  omega
theorem code_eq : (shapeCast _ (Ref.rcode xb) Cert.ReferenceIdeal.Facts₀.shapeCasts_S983040x32_S245760x128 : Cert.ReferenceIdeal.S245760x128.Idx → BitVec 8) = codeArr x := by
  funext y
  rw [eq_ix2 (n0 := 245760) (n1 := 128) y]
  generalize (y 0 : Fin 245760) = r
  generalize (y 1 : Fin 128) = l
  refine (Ref.codeOut_apply _ r l).trans ((Ref.rcode_apply xb x hx _ _).trans (congrArg (Spec.code x) ?_))
  show 32 * (4 * r.val + l.val / 32) + l.val % 32 = 128 * r.val + l.val
  omega
theorem scale_eq : (shapeCast _ (Ref.rscale xb) Cert.ReferenceIdeal.Facts₀.shapeCasts_S983040_S7680x128 : Cert.ReferenceIdeal.S7680x128.Idx → EReal) = scaleArr x := by
  funext y
  rw [eq_ix2 (n0 := 7680) (n1 := 128) y]
  generalize (y 0 : Fin 7680) = r
  generalize (y 1 : Fin 128) = l
  exact (Ref.blockOut_apply _ r l).trans (Ref.rscale_apply xb x hx _)
theorem zp_eq : (shapeCast _ (Ref.rzp xb) Cert.ReferenceIdeal.Facts₀.shapeCasts_S983040_S7680x128 : Cert.ReferenceIdeal.S7680x128.Idx → BitVec 8) = zpArr x := by
  funext y
  rw [eq_ix2 (n0 := 7680) (n1 := 128) y]
  generalize (y 0 : Fin 7680) = r
  generalize (y 1 : Fin 128) = l
  exact (Ref.blockOut_apply _ r l).trans (Ref.rzp_apply xb x hx _)
end

/-- THE REFERENCE'S RUN, with its results as the quantisation of a sequence `x` that its blocks are. -/
theorem ref_run (m : (ℓ : Loc Cert.ReferenceIdeal.nD Cert.ReferenceIdeal.τ Cert.ReferenceIdeal.sig) → Buf (Elt Ideal) ℓ) (g : Dev Cert.ReferenceIdeal.nD → PrngReg)
    (x : Dev Cert.ReferenceIdeal.nD → ℕ → EReal) (hx : ∀ c (b : Fin 983040) (i : Fin 64), Ref.blk m c (ix2 b i) = x c (64 * b.val + i.val)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v47) = errArr (x c)
      ∧ r.2.mem ((c.tc : Thread Cert.ReferenceIdeal.nD Cert.ReferenceIdeal.τ).loc Cert.ReferenceIdeal.main_v48) = codeArr (x c)
      ∧ r.2.mem ((c.tc : Thread Cert.ReferenceIdeal.nD Cert.ReferenceIdeal.τ).loc Cert.ReferenceIdeal.main_v49) = scaleArr (x c)
      ∧ r.2.mem ((c.tc : Thread Cert.ReferenceIdeal.nD Cert.ReferenceIdeal.τ).loc Cert.ReferenceIdeal.main_v51) = zpArr (x c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun r h c => ⟨(h c).1.trans ((Ref.out0_eq m c).trans (err_eq _ _ (hx c))),
      (h c).2.1.trans ((Ref.out1_eq m c).trans (code_eq _ _ (hx c))),
      (h c).2.2.1.trans (scale_eq (Ref.blk m c) _ (hx c)),
      (h c).2.2.2.1.trans (zp_eq (Ref.blk m c) _ (hx c)),
      (h c).2.2.2.2⟩) (Cert.ReferenceIdeal.Value.run m g)

end Cert.Proof.Agree

end
-- ==== Proof.NormRun.lean ====
/-
  The norm kernel's body at one grid point: its loop over the chunks, the search for the chunk's first tensor (the printed
  `while`), and the loop over the tensors that a chunk may touch. The search's counter stays a word below 29, whatever the
  offsets are, and so every row that the body reads or adds to lies inside its array.
-/
module

public import proofs.«01_k».proof.Defs
public import proofs.«01_k».proof.Proof.Gen.Norm.Loops
public import proofs.«01_k».proof.Proof.Gen.Norm.Skeleton
public import proofs.«01_k».proof.Proof.Gen.Norm.Points
public import Idealize.ShloMosaic.Lib.Tactic
public import Idealize.ShloMosaic.Lib.Writes
public import Idealize.ShloMosaic.Lib.ValueIdxCore

@[expose] public section

noncomputable section

namespace Cert.Proof.Norm

open Cert.Norm Cert.Norm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The search's label calls itself: its variant is the number of tensors left. -/
abbrev 𝒱₀ : Variants := Variants.nat

/-- The contents of memref `M`'s buffer on core `c`, and the memref held at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-! ## The checks of a counter below 29 -/

theorem chk1_of : ∀ j < 29, k0_chk1 (BitVec.ofNat 32 j) := by decide +kernel
theorem chk2_of : ∀ j < 29, k0_chk2 (BitVec.ofNat 32 j) := by decide +kernel
theorem off5_of : ∀ j < 29, ∀ a, (k0_off5 (BitVec.ofNat 32 j)) a + S1x8x128.size a ≤ S32x8x128.size a := by decide +kernel
theorem ok2_of : ∀ j < 29, (k0_t2_loop (BitVec.ofNat 32 j)).OK := by decide +kernel
theorem ok3_of : ∀ j < 29, (k0_t3_loop (BitVec.ofNat 32 j)).OK := by decide +kernel
theorem trips3_of : ∀ j < 29, (k0_t3_loop (BitVec.ofNat 32 j)).trips = 0 := by decide +kernel
theorem off6_of : ∀ j < 29, ∀ t2 : Fin (k0_t2_loop (BitVec.ofNat 32 j)).trips, ∀ a, (k0_off6 (BitVec.ofNat 32 j) t2) a + S1.size a ≤ S30.size a := by decide +kernel
theorem off7_of : ∀ j < 29, ∀ t2 : Fin (k0_t2_loop (BitVec.ofNat 32 j)).trips, ∀ a, (k0_off7 (BitVec.ofNat 32 j) t2) a + S1.size a ≤ S30.size a := by decide +kernel
theorem off8_of : ∀ j < 29, ∀ t2 : Fin (k0_t2_loop (BitVec.ofNat 32 j)).trips, ∀ a, (k0_off8 (BitVec.ofNat 32 j) t2) a + S1x8x128.size a ≤ S32x8x128.size a := by decide +kernel

theorem chk3_of (i : grid0.Coords) (k : Fin k0_t1_loop.trips) (j : ℕ) (hj : j < 29) (v32 v36 : BitVec 32) : k0_chk3 i k (BitVec.ofNat 32 j) v32 v36 :=
  ⟨fun _ => off5_of j hj, fun _ => ok2_of j hj, fun t2 _ => off6_of j hj t2, fun t2 _ => off7_of j hj t2, fun _ => ok3_of j hj,
    fun t3 _ => absurd (lt_of_lt_of_eq t3.isLt (trips3_of j hj)) (Nat.not_lt_zero _), fun t3 _ => absurd (lt_of_lt_of_eq t3.isLt (trips3_of j hj)) (Nat.not_lt_zero _)⟩

theorem chk4_of (i : grid0.Coords) (k : Fin k0_t1_loop.trips) (j : ℕ) (hj : j < 29) (v32 v36 : BitVec 32) (t2 : Fin (k0_t2_loop (BitVec.ofNat 32 j)).trips) (v85 v88 : BitVec 32) :
    k0_chk4 i k (BitVec.ofNat 32 j) v32 v36 t2 v85 v88 := fun _ _ => off8_of j hj t2

theorem addi_succ : ∀ j < 28, Scalar.addi (BitVec.ofNat 32 j) 1#32 = BitVec.ofNat 32 (j + 1) := by decide
theorem slt_of_lt : ∀ j < 28, Scalar.cmpi .slt (BitVec.ofNat 32 j) 28#32 = 1#1 := by decide
theorem andi_one : ∀ b : BitVec 1, Scalar.andi 1#1 b = 1#1 → b = 1#1 := by decide
theorem not_slt : Scalar.cmpi .slt (BitVec.ofNat 32 28) 28#32 = 0#1 := by decide

/-! ## The search -/

/-- The first element of the chunks of a trip, as the kernel computes it. -/
def start (i : grid0.Coords) (k : Fin k0_t1_loop.trips) : BitVec 32 :=
  Scalar.muli (Scalar.addi (Scalar.muli (BitVec.ofNat 32 (i 0).val) 8#32) (Scalar.addi 0#32 (Scalar.muli (Scf.iv 0#32 1#32 k) 1#32))) 131072#32

section While
variable (c : Dev nD) (i : grid0.Coords) (k : Fin k0_t1_loop.trips) (arg1 : Memref sig .tc .smem S30 .i32) (harg1 : arg1.IsWhole) (f1 : Bf (F := F) c arg1)

/-- The tensors' offsets, word by word. -/
def word (q : ℕ) : BitVec 32 := if h : q < 30 then arg1.view.read (Elt F) f1 (fun a => ⟨q, by match a with | ⟨0, _⟩ => exact h⟩) else 0#32

/-- Reading one word of the offsets. -/
theorem word_read (off : Fin 1 → ℕ) (inb : ∀ a, off a + S1.size a ≤ S30.size a) (x : S1.Idx) (o : ℕ) (ho : off 0 = o) :
    View.readAt (Elt F) arg1.view (Rect.unit (s := S30) off S1.size inb).toLoadRect f1 x = word c arg1 f1 o := by
  subst ho
  have h := inb 0
  have h' : off 0 < 30 := by have e1 : S1.size 0 = 1 := rfl; have e2 : S30.size 0 = 30 := rfl; omega
  unfold word
  rw [dif_pos h', View.readAt_apply]
  refine congrArg (arg1.view.read (Elt F) f1) (funext fun a => Fin.ext ?_)
  rw [LoadRect.idx_apply]
  match a with
  | ⟨0, _⟩ =>
    show off 0 + 1 * (x 0).val = off 0
    have : (x 0).val < 1 := (x 0).isLt
    omega

/-- What the search finds: the first tensor from `j` on that does not end by the chunks' start, or the last one. -/
def Found (w : ℕ → BitVec 32) (s : BitVec 32) (j j' : ℕ) : Prop :=
  j ≤ j' ∧ j' < 29 ∧ (∀ q, j ≤ q → q < j' → Scalar.cmpi .sle (w (q + 1)) s = 1#1)

/-- The search's specification: holding the offsets it returns what `Found` says, and the offsets as they were. -/
def spec (j : ℕ) : sWPT 𝕄 (BitVec 32) := do
  sWPT.consume (pt c arg1 f1)
  let r ← sWPT.arbitrary
  sWPT.assume (∃ j', Found (word c arg1 f1) (start i k) j j' ∧ r = BitVec.ofNat 32 j')
  sWPT.produce (pt c arg1 f1)
  pure r

theorem spec_apply (j : ℕ) (K : BitVec 32 → sProp 𝕄) :
    spec c i k arg1 f1 j K = iprop(pt c arg1 f1 ∗ ∀ r : BitVec 32, ⌜∃ j', Found (word c arg1 f1) (start i k) j j' ∧ r = BitVec.ofNat 32 j'⌝ -∗ (pt c arg1 f1 -∗ K r)) := rfl

theorem off1_eq : ∀ j < 29, k0_off1 (BitVec.ofNat 32 j) 0 = j + 1 := by decide +kernel

/-- The search meets it from any counter below 29, by induction on the tensors left. -/
theorem spec_le : ∀ n j, j + n = 28 → ∀ K, spec c i k arg1 f1 j K
    ⊢ wp frame (wpE (defs₀ (F := F)) 𝒱₀ (c : Thread nD τ) (some n)) Set.univ (defs₀ (F := F) .tc 1 ⟨i, k, arg1, harg1, BitVec.ofNat 32 j⟩) K := by
  intro n
  induction n with
  | zero =>
    intro j hj K
    obtain rfl : j = 28 := by omega
    rw [spec_apply]
    show _ ⊢ wp frame (wpE (defs₀ (F := F)) 𝒱₀ (c : Thread nD τ) (some 0)) Set.univ (cc0_while1 i k arg1 harg1 (BitVec.ofNat 32 28)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some 0) Set.univ (chk1_of 28 (by decide)))
    sl_step
    rw [if_neg (by rw [not_slt]; generalize Scalar.cmpi .sle _ _ = b; revert b; decide)]
    rw [wp_ret]; imodintro
    iapply Hk
    · ipureintro; exact ⟨28, ⟨le_refl _, by decide, fun q h h' => absurd h (by omega)⟩, rfl⟩
    · iexact H
  | succ n ih =>
    intro j hj K
    rw [spec_apply]
    show _ ⊢ wp frame (wpE (defs₀ (F := F)) 𝒱₀ (c : Thread nD τ) (some (n + 1))) Set.univ (cc0_while1 i k arg1 harg1 (BitVec.ofNat 32 j)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk1_of j (by omega)))
    sl_step
    split
    · next hc =>
      rw [slt_of_lt j (by omega)] at hc
      rw [addi_succ j (by omega)]
      iapply (wp_call_spec 𝒱₀ (c : Thread nD τ) (some (n + 1)) Set.univ (spec c i k arg1 f1 (j + 1)) n
        (fun u hu => by cases hu; exact Nat.lt_succ_self n) (ih (j + 1) (by omega)))
      rw [spec_apply]
      isplitl [H]; · iexact H
      iintro %r %hr H
      rw [wp_ret]; imodintro
      iapply Hk
      · ipureintro
        obtain ⟨j', hF, e⟩ := hr
        refine ⟨j', ⟨by have := hF.1; omega, hF.2.1, fun q h h' => ?_⟩, e⟩
        rcases Nat.eq_or_lt_of_le h with rfl | h
        · have e := word_read c arg1 f1 (k0_off1 (BitVec.ofNat 32 j)) (chk1_of j (by omega)) (Shape.Idx.first (numel1_S1.symm ▸ Nat.one_pos)) (j + 1) (off1_eq j (by omega))
          rw [← e]
          exact andi_one _ hc
        · exact hF.2.2 q h h'
      · iexact H
    · rw [wp_ret]; imodintro
      iapply Hk
      · ipureintro; exact ⟨j, ⟨le_refl _, by omega, fun q h h' => absurd h (by omega)⟩, rfl⟩
      · iexact H

end While

/-! ## The accumulator, row by row -/

/-- Contents of the accumulator: a row of 8 by 128 partial sums for each tensor. -/
abbrev Acc : Type := S32x8x128.Idx → F .f32

def rowOf (A : Acc (F := F)) (r : ℕ) : Vec F S1x8x128 .f32 := fun y => A (ValueIdx.ix3 (⟨r % 32, Nat.mod_lt _ (by decide)⟩ : Fin 32) (y 1 : Fin 8) (y 2 : Fin 128))
def put (A : Acc (F := F)) (r : ℕ) (P : Vec F S1x8x128 .f32) : Acc (F := F) := fun y => if (y 0).val = r then P (ValueIdx.ix3 (0 : Fin 1) (y 1 : Fin 8) (y 2 : Fin 128)) else A y

section Rows
variable (arg7 : Memref sig .tc .vmem S32x8x128 .f32) (f7 : arg7.view.ty.Contents (Elt F))

/-- Loading a row reads it. -/
theorem row_read (off : Fin 3 → ℕ) (inb : ∀ a, off a + S1x8x128.size a ≤ S32x8x128.size a) (r : ℕ) (ho : off = ![r, 0, 0]) :
    View.readAt (Elt F) arg7.view (Rect.unit (s := S32x8x128) off S1x8x128.size inb).toLoadRect f7 = rowOf (arg7.view.read (Elt F) f7) r := by
  subst ho
  have h : r + 1 ≤ 32 := inb 0
  funext y
  unfold rowOf
  rw [View.readAt_apply]
  refine congrArg (arg7.view.read (Elt F) f7) (funext fun a => Fin.ext ?_)
  rw [LoadRect.idx_apply]
  match a with
  | ⟨0, _⟩ =>
    show r + 1 * (y 0).val = r % 32
    have : (y 0).val < 1 := (y 0).isLt
    omega
  | ⟨1, _⟩ => show 0 + 1 * (y 1).val = (y 1).val; omega
  | ⟨2, _⟩ => show 0 + 1 * (y 2).val = (y 2).val; omega

/-- Storing a row replaces it. -/
theorem row_store (off : Fin 3 → ℕ) (inb : ∀ a, off a + S1x8x128.size a ≤ S32x8x128.size a) (r : ℕ) (ho : off = ![r, 0, 0]) (P : Vec F S1x8x128 .f32) :
    arg7.view.read (Elt F) (arg7.view.writes (Elt F) f7 [⟨Rect.unit (s := S32x8x128) off S1x8x128.size inb, P⟩]) = put (arg7.view.read (Elt F) f7) r P := by
  subst ho
  have h : r + 1 ≤ 32 := inb 0
  funext y
  unfold put
  have hidx : ∀ x : S1x8x128.Idx, ((Rect.unit (s := S32x8x128) ![r, 0, 0] S1x8x128.size inb).emb x 0).val = r ∧ ((Rect.unit (s := S32x8x128) ![r, 0, 0] S1x8x128.size inb).emb x 1).val = (x 1).val ∧ ((Rect.unit (s := S32x8x128) ![r, 0, 0] S1x8x128.size inb).emb x 2).val = (x 2).val := by
    intro x
    have h0 : (x 0).val < 1 := (x 0).isLt
    refine ⟨?_, ?_, ?_⟩
    · show r + 1 * (x 0).val = r; omega
    · show 0 + 1 * (x 1).val = (x 1).val; omega
    · show 0 + 1 * (x 2).val = (x 2).val; omega
  by_cases hy : (y 0).val = r
  · rw [if_pos hy]
    have e : (Rect.unit (s := S32x8x128) ![r, 0, 0] S1x8x128.size inb).emb (ValueIdx.ix3 (0 : Fin 1) (y 1 : Fin 8) (y 2 : Fin 128)) = y := by
      obtain ⟨h0, h1, h2⟩ := hidx (ValueIdx.ix3 (0 : Fin 1) (y 1 : Fin 8) (y 2 : Fin 128))
      funext a
      refine Fin.ext ?_
      match a with
      | ⟨0, _⟩ => exact h0.trans hy.symm
      | ⟨1, _⟩ => exact h1
      | ⟨2, _⟩ => exact h2
    refine View.read_writes_apply_of_pieces arg7.view f7 (fun y => P (ValueIdx.ix3 (0 : Fin 1) (y 1 : Fin 8) (y 2 : Fin 128))) _ (fun p hp x => ?_) y ⟨_, List.mem_singleton.2 rfl, ?_⟩
    · obtain rfl := List.mem_singleton.1 hp
      refine congrArg P (funext fun a => Fin.ext ?_)
      obtain ⟨h0, h1, h2⟩ := hidx x
      match a with
      | ⟨0, _⟩ => show (x 0).val = 0; have : (x 0).val < 1 := (x 0).isLt; omega
      | ⟨1, _⟩ => exact h1.symm
      | ⟨2, _⟩ => exact h2.symm
    · have h := LoadRect.idx_mem (Rect.unit (s := S32x8x128) ![r, 0, 0] S1x8x128.size inb).toLoadRect (ValueIdx.ix3 (0 : Fin 1) (y 1 : Fin 8) (y 2 : Fin 128))
      have e' : (Rect.unit (s := S32x8x128) ![r, 0, 0] S1x8x128.size inb).toLoadRect.idx (ValueIdx.ix3 (0 : Fin 1) (y 1 : Fin 8) (y 2 : Fin 128)) = y := e
      rwa [e'] at h
  · rw [if_neg hy]
    refine View.read_writes_apply_of_forall_not_mem arg7.view f7 y _ (fun p hp hm => ?_)
    obtain rfl := List.mem_singleton.1 hp
    have hm' := (Rect.mem_set_unit (inb := inb)).1 hm 0
    have e1 : (![r, 0, 0] : Fin 3 → ℕ) 0 = r := rfl
    have e2 : S1x8x128.size 0 = 1 := rfl
    rw [e1, e2] at hm'
    omega

end Rows

section Body

variable (c : Dev nD) (i : grid0.Coords) (arg1 : Memref sig .tc .smem S30 .i32) (harg1 : arg1.IsWhole) (arg2 : Memref sig .tc .smem S1x1 .f32) (harg2 : arg2.IsWhole) (arg3 : Memref sig .tc .vmem S8192x128 .bf16) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S32x8x128 .f32) (harg7 : arg7.IsWhole) (arg8 : Memref sig .tc .smem S1 .i32) (harg8 : arg8.IsWhole)
  (f1 : Bf (F := F) c arg1)

/-- What a chunk group that may touch several tensors does to tensor `r`'s row, and to the `n` rows from row `j` on. -/
def partA (k : Fin k0_t1_loop.trips) (v20 : Vec F S1024x128 .bf16) (w : ℕ → BitVec 32) (A : Acc (F := F)) (r : ℕ) : Acc (F := F) :=
  if k0_cond4 i k (w r) (w (r + 1)) = 1#1 then put A r (k0_pay5 i k v20 (w r) (w (r + 1)) (rowOf A r)) else A
def loopA (k : Fin k0_t1_loop.trips) (v20 : Vec F S1024x128 .bf16) (w : ℕ → BitVec 32) (A : Acc (F := F)) (j : ℕ) : ℕ → Acc (F := F)
  | 0 => A
  | n + 1 => partA i k v20 w (loopA k v20 w A j n) (j + n)

theorem off6_eq : ∀ j < 29, ∀ t2 : Fin (k0_t2_loop (BitVec.ofNat 32 j)).trips, k0_off6 (BitVec.ofNat 32 j) t2 0 = j + t2.val := by decide +kernel
theorem off7_eq : ∀ j < 29, ∀ t2 : Fin (k0_t2_loop (BitVec.ofNat 32 j)).trips, k0_off7 (BitVec.ofNat 32 j) t2 0 = j + t2.val + 1 := by decide +kernel
theorem off8_eq : ∀ j < 29, ∀ t2 : Fin (k0_t2_loop (BitVec.ofNat 32 j)).trips, k0_off8 (BitVec.ofNat 32 j) t2 = ![j + t2.val, 0, 0] := by decide +kernel
theorem off5_eq : ∀ j < 29, k0_off5 (BitVec.ofNat 32 j) = ![j, 0, 0] := by decide +kernel
theorem off3_eq : ∀ j < 29, k0_off3 (BitVec.ofNat 32 j) 0 = j := by decide +kernel
theorem off4_eq : ∀ j < 29, k0_off4 (BitVec.ofNat 32 j) 0 = j + 1 := by decide +kernel
theorem trips2_of : ∀ j < 29, (k0_t2_loop (BitVec.ofNat 32 j)).trips = 29 - j := by decide +kernel

set_option maxHeartbeats 0
set_option maxRecDepth 10000

/-- The rows' loop: its invariant before trip `n`. -/
def rowsInv (k : Fin k0_t1_loop.trips) (v20 : Vec F S1024x128 .bf16) (A : Acc (F := F)) (j n : ℕ) : sProp 𝕄 :=
  iprop(pt c arg1 f1 ∗ (∃ f : Bf (F := F) c arg7, ⌜arg7.view.read (Elt F) f = loopA i k v20 (word c arg1 f1) A j n⌝ ∗ pt c arg7 f))

theorem rows_step (k : Fin k0_t1_loop.trips) (v20 : Vec F S1024x128 .bf16) (A : Acc (F := F)) (j : ℕ) (hj : j < 29) (v32 v36 : BitVec 32) (h3 : k0_chk3 i k (BitVec.ofNat 32 j) v32 v36) (h4 : k0_cond3 i k v32 v36 = 1#1) (t2 : Fin (k0_t2_loop (BitVec.ofNat 32 j)).trips) :
    rowsInv c i arg1 arg7 f1 k v20 A j t2.val
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 k (BitVec.ofNat 32 j) v20 v32 v36 h3 h4 t2 ())
      (fun _ => rowsInv c i arg1 arg7 f1 k v20 A j (t2.val + 1)) := by
  unfold rowsInv
  iintro ⟨H1, ⟨%f7, %h7, H7⟩⟩
  have hchk := chk4_of i k j hj v32 v36 t2
  sl_unfold [k0_t2_body]
  sl_exec
  have e5 : rows_step.sl.r c i arg1 f1 k j v32 v36 h3 h4 t2 = word c arg1 f1 (j + t2.val) := word_read c arg1 f1 _ _ _ _ (off6_eq j hj t2)
  have e6 : rows_step.sl.r_1 c i arg1 f1 k j v32 v36 h3 h4 t2 = word c arg1 f1 (j + t2.val + 1) := word_read c arg1 f1 _ _ _ _ (off7_eq j hj t2)
  sl_step
  isplitl [H1]; · iexact H1
  iexists _
  isplitr [H7]; rotate_left; · iexact H7
  ipureintro
  show _ = partA i k v20 (word c arg1 f1) (loopA i k v20 (word c arg1 f1) A j t2.val) (j + t2.val)
  unfold partA
  by_cases hc : k0_cond4 i k (rows_step.sl.r c i arg1 f1 k j v32 v36 h3 h4 t2) (rows_step.sl.r_1 c i arg1 f1 k j v32 v36 h3 h4 t2) = 1#1
  · rw [dif_pos hc, row_store arg7 f7 _ _ _ (off8_eq j hj t2), h7]
    have e7 : rows_step.sl.v104 c i arg1 arg7 f1 k j v32 v36 h3 h4 t2 f7 hchk hc = rowOf (arg7.view.read (Elt F) f7) (j + t2.val) := row_read arg7 f7 _ _ _ (off8_eq j hj t2)
    rw [e5, e6] at hc
    rw [if_pos hc, e5, e6, e7, h7]
  · rw [dif_neg hc, h7]
    rw [e5, e6] at hc
    rw [if_neg hc]

/-- What a chunk group does: the search's new tensor, and the new accumulator. -/
def TripA (k : Fin k0_t1_loop.trips) (v20 : Vec F S1024x128 .bf16) (w : ℕ → BitVec 32) (j : ℕ) (A : Acc (F := F)) (j' : ℕ) (A' : Acc (F := F)) : Prop :=
  Found w (start i k) j j' ∧ A' = if k0_cond2 i k (w j') (w (j' + 1)) = 1#1 then put A j' (k0_pay3 v20 (rowOf A j')) else loopA i k v20 w A j' (29 - j')

/-- The chunk group's rows of the block. -/
def rowsK (f3 : Bf (F := F) c arg3) (k : Fin k0_t1_loop.trips) : Vec F S1024x128 .bf16 :=
  View.readAt (Elt F) arg3.view (Rect.unit (s := S8192x128) (k0_off2 k) S1024x128.size (k0_off2_inb k)).toLoadRect f3

/-- The scratch word, read. -/
def At (f8 : Bf (F := F) c arg8) (j : ℕ) : Prop := ∀ x, arg8.view.read (Elt F) f8 x = BitVec.ofNat 32 j

/-- The two scratch arrays between trips: the word is the tensor found last, the accumulator as the state says. -/
def scratch (P : ℕ → Acc (F := F) → Prop) : sProp 𝕄 :=
  iprop(∃ (f7 : Bf (F := F) c arg7) (f8 : Bf (F := F) c arg8) (j : ℕ), ⌜j < 29 ∧ At c arg8 f8 j ∧ P j (arg7.view.read (Elt F) f7)⌝ ∗ pt c arg7 f7 ∗ pt c arg8 f8)

theorem at_read (f8 : Bf (F := F) c arg8) (j : ℕ) (h : At c arg8 f8 j) (inb) (x : S1.Idx) :
    View.readAt (Elt F) arg8.view (Rect.unit (s := S1) ![0] S1.size inb).toLoadRect f8 x = BitVec.ofNat 32 j := by
  rw [View.readAt_apply]; exact h _
theorem at_store (f8 : Bf (F := F) c arg8) (j : ℕ) (inb) :
    At c arg8 (arg8.view.writes (Elt F) f8 [⟨Rect.unit (s := S1) ![0] S1.size inb, fun _ => BitVec.ofNat 32 j⟩]) j := by
  intro x
  refine View.read_writes_apply_of_pieces arg8.view f8 (fun _ => BitVec.ofNat 32 j) _ (fun p hp y => ?_) x ⟨_, List.mem_singleton.2 rfl, ?_⟩
  · obtain rfl := List.mem_singleton.1 hp; rfl
  · refine (Rect.mem_set_unit (inb := inb)).2 fun a => ?_
    match a with
    | ⟨0, _⟩ => exact ⟨Nat.zero_le _, by show _ < 0 + 1; have : (x 0).val < 1 := (x 0).isLt; exact this⟩

theorem flip_one : ∀ b : BitVec 1, Scalar.cmpi .ne (Scalar.extui b : BitVec 32) 0#32 = 1#1 → Scalar.cmpi .ne (Scalar.extui (Scalar.xori b 1#1) : BitVec 32) 0#32 ≠ 1#1 := by decide
theorem flip_zero : ∀ b : BitVec 1, ¬ Scalar.cmpi .ne (Scalar.extui b : BitVec 32) 0#32 = 1#1 → Scalar.cmpi .ne (Scalar.extui (Scalar.xori b 1#1) : BitVec 32) 0#32 = 1#1 := by decide
theorem cond3_of (k : Fin k0_t1_loop.trips) (u v : BitVec 32) (h : k0_cond2 i k u v = 1#1) : k0_cond3 i k u v ≠ 1#1 := flip_one _ h
theorem cond3_of_not (k : Fin k0_t1_loop.trips) (u v : BitVec 32) (h : ¬ k0_cond2 i k u v = 1#1) : k0_cond3 i k u v = 1#1 := flip_zero _ h

theorem trip_step (f3 : Bf (F := F) c arg3) (k : Fin k0_t1_loop.trips) (P P' : ℕ → Acc (F := F) → Prop)
    (hP : ∀ j A j' A', j < 29 → P j A → TripA i k (rowsK c arg3 f3 k) (word c arg1 f1) j A j' A' → P' j' A') :
    iprop(pt c arg1 f1 ∗ pt c arg3 f3 ∗ scratch c arg7 arg8 P)
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 k ())
      (fun _ => iprop(pt c arg1 f1 ∗ pt c arg3 f3 ∗ scratch c arg7 arg8 P')) := by
  unfold scratch
  iintro ⟨H1, H3, ⟨%f7, %f8, %j, %h, H7, H8⟩⟩
  obtain ⟨hj, h8, hA⟩ := h
  sl_unfold [k0_t1_body]
  sl_exec
  have e : trip_step.sl.r c arg8 f8 = BitVec.ofNat 32 j := at_read c arg8 f8 j h8 _ _
  rw [e]
  iapply (wp_call_spec 𝒱₀ (c : Thread nD τ) none Set.univ (spec c i k arg1 f1 j) (28 - j)
    (fun u hu => nomatch hu) (spec_le c i k arg1 harg1 f1 (28 - j) j (by omega)))
  rw [spec_apply]
  isplitl [H1]; · iexact H1
  iintro %r %hr H1
  obtain ⟨j', hF, rfl⟩ := hr
  have hj' : j' < 29 := hF.2.1
  have hc2 := chk2_of j' hj'
  have hc3 := fun v32 v36 => chk3_of i k j' hj' v32 v36
  sl_exec
  have e2 : trip_step.sl.r_2 c arg1 f1 j' hc2 = word c arg1 f1 j' := word_read c arg1 f1 _ _ _ _ (off3_eq j' hj')
  have e3 : trip_step.sl.r_3 c arg1 f1 j' hc2 = word c arg1 f1 (j' + 1) := word_read c arg1 f1 _ _ _ _ (off4_eq j' hj')
  have e8 : At c arg8 (arg8.view.writes (Elt F) f8 (trip_step.sl.H8_1 j')) j' := at_store c arg8 f8 j' _
  by_cases hc : k0_cond2 i k (trip_step.sl.r_2 c arg1 f1 j' hc2) (trip_step.sl.r_3 c arg1 f1 j' hc2) = 1#1
  · rw [dif_neg (cond3_of i k _ _ hc)]
    rw [dif_pos hc]
    sl_step
    isplitl [H1]; · iexact H1
    isplitl [H3]; · iexact H3
    iexists _; iexists _; iexists j'
    isplitr [H7 H8]; rotate_left
    · isplitl [H7]; · iexact H7
      iexact H8
    ipureintro
    refine ⟨hj', e8, hP j _ j' _ hj hA ⟨hF, ?_⟩⟩
    rw [row_store arg7 f7 _ _ _ (off5_eq j' hj')]
    have e7 : trip_step.sl.v45 c i arg1 arg7 f1 k f7 j' hc2 hc3 hc = rowOf (arg7.view.read (Elt F) f7) j' := row_read arg7 f7 _ _ _ (off5_eq j' hj')
    rw [e7]
    rw [e2, e3] at hc
    rw [if_pos hc]
    rfl
  · have h4 := cond3_of_not i k _ _ hc
    rw [dif_pos h4, dif_neg hc]
    sl_for (fun n _ => rowsInv c i arg1 arg7 f1 k (rowsK c arg3 f3 k) (arg7.view.read (Elt F) f7) j' n) $$ [H1 H7]
    case region =>
      intro t2 _
      exact rows_step c i arg1 harg1 arg2 harg2 arg3 harg3 arg4 harg4 arg5 harg5 arg6 harg6 arg7 harg7 arg8 harg8 f1 k _ _ j' hj' _ _ _ h4 t2
    · unfold rowsInv
      isplitl [H1]; · iexact H1
      iexists f7
      isplitr [H7]; · ipureintro; rfl
      iexact H7
    iintro %u HI
    sl_for (fun _ _ => iprop(emp)) $$ []
    case region =>
      intro t3 _
      exact absurd (lt_of_lt_of_eq t3.isLt (trips3_of j' hj')) (Nat.not_lt_zero _)
    · iempintro
    iintro %u' _
    have tr2 : Scf.trips (k0_t2_loop (BitVec.ofNat 32 j')).lb (k0_t2_loop (BitVec.ofNat 32 j')).ub (k0_t2_loop (BitVec.ofNat 32 j')).st = 29 - j' := trips2_of j' hj'
    rw [tr2]
    unfold rowsInv
    icases HI with ⟨H1, ⟨%f7', %h7', H7⟩⟩
    sl_step
    isplitl [H1]; · iexact H1
    isplitl [H3]; · iexact H3
    iexists f7'; iexists _; iexists j'
    isplitr [H7 H8]; rotate_left
    · isplitl [H7]; · iexact H7
      iexact H8
    ipureintro
    refine ⟨hj', e8, hP j _ j' _ hj hA ⟨hF, ?_⟩⟩
    rw [e2, e3] at hc
    rw [if_neg hc, h7']

end Body

end Cert.Proof.Norm

end
-- ==== Proof.NormBody.lean ====
/-
  The norm kernel's body at one grid point, run from its first operation to its last.
-/
module

public import proofs.«01_k».proof.Proof.NormRun

@[expose] public section

noncomputable section

namespace Cert.Proof.Norm

open Cert.Norm Cert.Norm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Body

variable (c : Dev nD) (i : grid0.Coords) (arg1 : Memref sig .tc .smem S30 .i32) (harg1 : arg1.IsWhole) (arg2 : Memref sig .tc .smem S1x1 .f32) (harg2 : arg2.IsWhole) (arg3 : Memref sig .tc .vmem S8192x128 .bf16) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S32x8x128 .f32) (harg7 : arg7.IsWhole) (arg8 : Memref sig .tc .smem S1 .i32) (harg8 : arg8.IsWhole)
  (f1 : Bf (F := F) c arg1)

set_option maxHeartbeats 0
set_option maxRecDepth 10000

theorem first_of : ∀ n < 60, (Scalar.cmpi .ne (Scalar.extui (Scalar.cmpi .eq (BitVec.ofNat 32 n) 0#32) : BitVec 32) 0#32 = 1#1) ↔ n = 0 := by decide +kernel

/-- What the body leaves: the inputs as they were, the results and the accumulator at some contents, the scratch word below 29. -/
def left (f2 : Bf (F := F) c arg2) (f3 : Bf (F := F) c arg3) : sProp 𝕄 :=
  iprop(pt c arg1 f1 ∗ pt c arg2 f2 ∗ pt c arg3 f3
        ∗ (∃ f : Bf (F := F) c arg4, pt c arg4 f) ∗ (∃ f : Bf (F := F) c arg5, pt c arg5 f) ∗ (∃ f : Bf (F := F) c arg6, pt c arg6 f)
        ∗ scratch c arg7 arg8 (fun _ _ => True))

/-- The body: from any scratch contents at the first grid point, later from a scratch word below 29. -/
theorem body_run (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (h1 : (i 0).val ≠ 0 → ∃ j < 29, At c arg8 f8 j) :
    iprop(pt c arg1 f1 ∗ pt c arg2 f2 ∗ pt c arg3 f3 ∗ pt c arg4 f4 ∗ pt c arg5 f5 ∗ pt c arg6 f6 ∗ pt c arg7 f7 ∗ pt c arg8 f8)
    ⊢ wp frame (wpE (defs₀ (F := F)) 𝒱₀ (c : Thread nD τ) none) Set.univ (cc0_norm (F := F) i arg1 harg1 arg2 harg2 arg3 harg3 arg4 harg4 arg5 harg5 arg6 harg6 arg7 harg7 arg8 harg8)
      (fun _ => left c arg1 arg2 arg3 arg4 arg5 arg6 arg7 arg8 f1 f2 f3) := by
  unfold left
  simp only [cc0_norm_eq_skeleton]
  iintro ⟨H1, H2, H3, H4, H5, H6, H7, H8⟩
  have hfirst := first_of (i 0).val (i 0).isLt
  sl_unfold [cc0_norm_skel]
  by_cases hi : (i 0).val = 0
  · rw [dif_pos (hfirst.2 hi)]
    sl_exec
    sl_for (fun n _ => iprop(pt c arg1 f1 ∗ pt c arg3 f3 ∗ scratch c arg7 arg8 (fun _ _ => True))) $$ [H1 H3 H7 H8]
    case region =>
      intro k _
      exact trip_step c i arg1 harg1 arg2 harg2 arg3 harg3 arg4 harg4 arg5 harg5 arg6 harg6 arg7 harg7 arg8 harg8 f1 f3 k (fun _ _ => True) (fun _ _ => True) (fun _ _ _ _ _ _ _ => trivial)
    · isplitl [H1]; · iexact H1
      isplitl [H3]; · iexact H3
      unfold scratch
      iexists _; iexists _; iexists 0
      isplitr [H7 H8]; rotate_left
      · isplitl [H7]; · iexact H7
        iexact H8
      ipureintro
      exact ⟨by decide, at_store c arg8 _ 0 _, trivial⟩
    iintro %u ⟨H1, H3, HS⟩
    unfold scratch
    icases HS with ⟨%g7, %g8, %j', %h', H7, H8⟩
    sl_exec
    sl_step
    isplitl [H1]; · iexact H1
    isplitl [H2]; · iexact H2
    isplitl [H3]; · iexact H3
    isplitl [H4]; · iexists _; iexact H4
    isplitl [H5]; · iexists _; iexact H5
    isplitl [H6]; · iexists _; iexact H6
    iexists g7; iexists g8; iexists j'
    isplitr [H7 H8]
    · ipureintro; exact h'
    isplitl [H7]; · iexact H7
    iexact H8
  · rw [dif_neg (fun h => hi (hfirst.1 h))]
    obtain ⟨j, hj, h8⟩ := h1 hi
    sl_for (fun n _ => iprop(pt c arg1 f1 ∗ pt c arg3 f3 ∗ scratch c arg7 arg8 (fun _ _ => True))) $$ [H1 H3 H7 H8]
    case region =>
      intro k _
      exact trip_step c i arg1 harg1 arg2 harg2 arg3 harg3 arg4 harg4 arg5 harg5 arg6 harg6 arg7 harg7 arg8 harg8 f1 f3 k (fun _ _ => True) (fun _ _ => True) (fun _ _ _ _ _ _ _ => trivial)
    · isplitl [H1]; · iexact H1
      isplitl [H3]; · iexact H3
      unfold scratch
      iexists _; iexists _; iexists j
      isplitr [H7 H8]; rotate_left
      · isplitl [H7]; · iexact H7
        iexact H8
      ipureintro
      exact ⟨hj, h8, trivial⟩
    iintro %u ⟨H1, H3, HS⟩
    unfold scratch
    icases HS with ⟨%g7, %g8, %j', %h', H7, H8⟩
    sl_exec
    sl_step
    isplitl [H1]; · iexact H1
    isplitl [H2]; · iexact H2
    isplitl [H3]; · iexact H3
    isplitl [H4]; · iexists _; iexact H4
    isplitl [H5]; · iexists _; iexact H5
    isplitl [H6]; · iexists _; iexact H6
    iexists g7; iexists g8; iexists j'
    isplitr [H7 H8]
    · ipureintro; exact h'
    isplitl [H7]; · iexact H7
    iexact H8

end Body

end Cert.Proof.Norm

end
-- ==== Proof.NormFrame.lean ====
/-
  The norm kernel's frame, from the body's run (NormBody): the pipeline's proof data, with what the result windows hold
  left unsaid and the scratch word kept below 29 from the first grid point on, the body obligation, and the launch.
-/
module

public import proofs.«01_k».proof.Proof.NormBody
public import proofs.«01_k».proof.Proof.Gen.Norm.Launch
public import Idealize.ShloMosaic.Lib.Pipeline.Frame
public import Idealize.ShloMosaic.Lib.Pipeline.FrameBody

@[expose] public section

noncomputable section

namespace Cert.Proof.Norm

open Cert.Norm Cert.Norm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The memory as the region finds it: as launched. -/
abbrev V (c : Dev nD) (b : Ref sig .tc) : Buf (Elt F) ((c.tc : Thread nD τ).loc b) := m ((c.tc : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => main_chain c)

/-- A window's block at a grid point, read through its array as launched. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window's staging buffer holds its block at every point, fetched there or not. -/
theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A scratch buffer of the kernel, held through its whole memref. -/
theorem pt_whole (c : Dev nD) (b : Ref sig .tc) (f : Buf (Elt F) ((c : Thread nD τ).loc b)) :
    (pt c (Memref.whole b) f : sProp 𝕄) = ((c : Thread nD τ).loc b ↦{fullShare} f) := by
  unfold pt; simp only [Memref.view_whole, View.set_whole]

/-- What holds between grid points: the scratch arrays, the word below 29 after the first one, and the rest of the core. -/
def Φ (c : Dev nD) (n : ℕ) : sProp 𝕄 :=
  iprop(((∃ f7 : Bf (F := F) c (Memref.whole cc0_scratch0), pt c (Memref.whole cc0_scratch0) f7)
      ∗ (∃ f8 : Bf (F := F) c (Memref.whole cc0_scratch1), ⌜n ≠ 0 → ∃ j < 29, At c (Memref.whole cc0_scratch1) f8 j⌝ ∗ pt c (Memref.whole cc0_scratch1) f8))
    ∗ ∃ r, prngReg c r)

set_option maxHeartbeats 0 in
theorem Φ_in (c : Dev nD) : (Pipeline.ΦA spec0 c : sProp 𝕄) ⊢ Φ c 0 := by
  unfold Pipeline.ΦA Φ
  rw [scopedRest0_eq]
  simp only [← pt_whole]
  iintro ⟨⟨⟨%s0, S0⟩, ⟨%s1, S1⟩⟩, Hr⟩
  isplitr [Hr]
  · isplitl [S0]; · iexists s0; iexact S0
    iexists s1
    isplitr [S1]
    · ipureintro; exact fun h => absurd rfl h
    iexact S1
  iexact Hr

set_option maxHeartbeats 0 in
theorem Φ_out (c : Dev nD) (n : ℕ) : Φ c n ⊢ (Pipeline.ΦA spec0 c : sProp 𝕄) := by
  unfold Pipeline.ΦA Φ
  rw [scopedRest0_eq]
  simp only [← pt_whole]
  iintro ⟨⟨⟨%s0, S0⟩, ⟨%s1, %h, S1⟩⟩, Hr⟩
  isplitr [Hr]
  · isplitl [S0]; · iexists s0; iexact S0
    iexists s1; iexact S1
  iexact Hr

/-- The windows whose contents are left unsaid: the three results. -/
def fgt (w : Fin (cfg0 (F := F)).W) : Bool := match w with
  | ⟨0, _⟩ => false | ⟨1, _⟩ => false | ⟨2, _⟩ => false | ⟨3, _⟩ => true | ⟨4, _⟩ => true | ⟨5, _⟩ => true

/-- The proof data on core `c`: each array at its contents when the region is entered, each input block left in place. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t
  Φ n := Φ c n.val
  q _ := fullShare
  owed _ := 0

theorem A_eq (c : Dev nD) (w : Fin (cfg0 (F := F)).W) : (dats m 0 c).A w = V m c (Pipeline.arrRef spec0 w) := by
  dsimp only [dats]

/-- The kernel the pipeline calls at point `t` is the printed body on the point's staging buffers. -/
theorem defs₀_row (t : Fin (cfg0 (F := F)).N) : defs₀ (F := F) .tc (cfg0 (F := F)).body ((cfg0 (F := F)).bodyArgs t ((cfg0 (F := F)).slots t)) = Gen.bodyAt0 t := by
  unfold defs₀; rw [Defs.onTc_tc]

theorem coord : ∀ t : Fin grid0.N, (grid0.coords t 0).val = t.val := by decide +kernel

set_option maxHeartbeats 0 in
theorem body_obligation (c : Dev nD) : BodyObligationLoose (dats m 0 c) (defs₀ (F := F)) 𝒱₀ () Set.univ fgt := fun t => by
  rw [bigSep_W0, bigSep_W0, defs₀_row]
  dsimp only [fgt]
  rw [show (dats m 0 c).Φ t.castSucc = Φ c t.val from rfl, show (dats m 0 c).Φ t.succ = Φ c (t.val + 1) from rfl]
  unfold Φ
  unfold owns Dat.owesAt Pipeline.owesWithin
  iintro ⟨⟨⟨⟨%s0, S0⟩, ⟨%s1, %hs1, S1⟩⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  iapply (wp_wand_r Idealize.ShloMosaic.frame (wpE (defs₀ (F := F)) 𝒱₀ (c : Thread nD τ) none) Set.univ)
  isplitl [H0 H1 H2 H3 H4 H5 S0 S1]
  · iapply (body_run c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (Memref.whole cc0_scratch0) (Memref.isWhole_whole _) (Memref.whole cc0_scratch1) (Memref.isWhole_whole _) f0 f1 f2 f3 f4 f5 s0 s1 (fun h => hs1 (fun h' => h ((coord t).trans h'))))
    isplitl [H0]; · iexact H0
    isplitl [H1]; · iexact H1
    isplitl [H2]; · iexact H2
    isplitl [H3]; · iexact H3
    isplitl [H4]; · iexact H4
    isplitl [H5]; · iexact H5
    isplitl [S0]; · iexact S0
    iexact S1
  unfold left scratch
  iintro %_ ⟨H0, H1, H2, ⟨%g3, H3⟩, ⟨%g4, H4⟩, ⟨%g5, H5⟩, ⟨%u0, %u1, %j, %hu, S0, S1⟩⟩
  isplitl [S0 S1 Hr]
  · isplitr [Hr]
    · isplitl [S0]; · iexists u0; iexact S0
      iexists u1
      isplitr [S1]
      · ipureintro; exact fun _ => ⟨j, hu.1, hu.2.1⟩
      iexact S1
    iexact Hr
  isplitl [HO]
  · iexists W; isplitr
    · ipureintro; exact hW
    iexact HO
  isplitl [H0]
  · iexists f0; isplitr
    · ipureintro; exact hf0.trans (before0_of m (dats m 0 c) (A_eq m c 0) (fun _ => rfl) t d0)
    iexact H0
  isplitl [H1]
  · iexists f1; isplitr
    · ipureintro; exact hf1.trans (before1_of m (dats m 0 c) (A_eq m c 1) (fun _ => rfl) t d1)
    iexact H1
  isplitl [H2]
  · iexists f2; isplitr
    · ipureintro; exact hf2.trans (before2_of m (dats m 0 c) (A_eq m c 2) (fun _ => rfl) t d2)
    iexact H2
  isplitl [H3]
  · iexists _, g3; isplitr
    · ipureintro; rfl
    iexact H3
  isplitl [H4]
  · iexists _, g4; isplitr
    · ipureintro; rfl
    iexact H4
  iexists _, g5; isplitr
  · ipureintro; rfl
  iexact H5

/-- THE FRAME: the run terminates without a fault, the argument arrays end as they began and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_frame_track_forget cfgs (dats m) 0 Gen.launch0 defs₀ 𝒱₀ fgt m ρ main (body_obligation m)
    (fun c => (dats m 0 c).share_full fun _ => rfl) (fun _ _ => rfl) (V m) (hmain m) (A_eq m) (fun c => Φ_in c) (fun c => Φ_out c _) _ ?_
  intro r h
  refine ⟨fun c => ⟨?_, ?_, ?_⟩, h.2⟩
  · exact (RDat.FramePost.arr_in h.1 c 0 rfl).trans (A_eq m c 0)
  · exact (RDat.FramePost.arr_in h.1 c 1 rfl).trans (A_eq m c 1)
  · exact (RDat.FramePost.arr_in h.1 c 2 rfl).trans (A_eq m c 2)

end Cert.Proof.Norm

end
-- ==== Proof.NormIdealRun.lean ====
/-
  The norm kernel's body at one grid point: its loop over the chunks, the search for the chunk's first tensor (the printed
  `while`), and the loop over the tensors that a chunk may touch. The search's counter stays a word below 29, whatever the
  offsets are, and so every row that the body reads or adds to lies inside its array.
-/
module

public import proofs.«01_k».proof.Defs
public import proofs.«01_k».proof.Proof.Gen.NormIdeal.Loops
public import proofs.«01_k».proof.Proof.Gen.NormIdeal.Skeleton
public import proofs.«01_k».proof.Proof.Gen.NormIdeal.Points
public import Idealize.ShloMosaic.Lib.Tactic
public import Idealize.ShloMosaic.Lib.Writes
public import Idealize.ShloMosaic.Lib.ValueIdxCore

@[expose] public section

noncomputable section

namespace Cert.Proof.NormIdeal

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The search's label calls itself: its variant is the number of tensors left. -/
abbrev 𝒱₀ : Variants := Variants.nat

/-- The contents of memref `M`'s buffer on core `c`, and the memref held at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-! ## The checks of a counter below 29 -/

theorem chk1_of : ∀ j < 29, k0_chk1 (BitVec.ofNat 32 j) := by decide +kernel
theorem chk2_of : ∀ j < 29, k0_chk2 (BitVec.ofNat 32 j) := by decide +kernel
theorem off5_of : ∀ j < 29, ∀ a, (k0_off5 (BitVec.ofNat 32 j)) a + S1x8x128.size a ≤ S32x8x128.size a := by decide +kernel
theorem ok2_of : ∀ j < 29, (k0_t2_loop (BitVec.ofNat 32 j)).OK := by decide +kernel
theorem ok3_of : ∀ j < 29, (k0_t3_loop (BitVec.ofNat 32 j)).OK := by decide +kernel
theorem trips3_of : ∀ j < 29, (k0_t3_loop (BitVec.ofNat 32 j)).trips = 0 := by decide +kernel
theorem off6_of : ∀ j < 29, ∀ t2 : Fin (k0_t2_loop (BitVec.ofNat 32 j)).trips, ∀ a, (k0_off6 (BitVec.ofNat 32 j) t2) a + S1.size a ≤ S30.size a := by decide +kernel
theorem off7_of : ∀ j < 29, ∀ t2 : Fin (k0_t2_loop (BitVec.ofNat 32 j)).trips, ∀ a, (k0_off7 (BitVec.ofNat 32 j) t2) a + S1.size a ≤ S30.size a := by decide +kernel
theorem off8_of : ∀ j < 29, ∀ t2 : Fin (k0_t2_loop (BitVec.ofNat 32 j)).trips, ∀ a, (k0_off8 (BitVec.ofNat 32 j) t2) a + S1x8x128.size a ≤ S32x8x128.size a := by decide +kernel

theorem chk3_of (i : grid0.Coords) (k : Fin k0_t1_loop.trips) (j : ℕ) (hj : j < 29) (v32 v36 : BitVec 32) : k0_chk3 i k (BitVec.ofNat 32 j) v32 v36 :=
  ⟨fun _ => off5_of j hj, fun _ => ok2_of j hj, fun t2 _ => off6_of j hj t2, fun t2 _ => off7_of j hj t2, fun _ => ok3_of j hj,
    fun t3 _ => absurd (lt_of_lt_of_eq t3.isLt (trips3_of j hj)) (Nat.not_lt_zero _), fun t3 _ => absurd (lt_of_lt_of_eq t3.isLt (trips3_of j hj)) (Nat.not_lt_zero _)⟩

theorem chk4_of (i : grid0.Coords) (k : Fin k0_t1_loop.trips) (j : ℕ) (hj : j < 29) (v32 v36 : BitVec 32) (t2 : Fin (k0_t2_loop (BitVec.ofNat 32 j)).trips) (v85 v88 : BitVec 32) :
    k0_chk4 i k (BitVec.ofNat 32 j) v32 v36 t2 v85 v88 := fun _ _ => off8_of j hj t2

theorem addi_succ : ∀ j < 28, Scalar.addi (BitVec.ofNat 32 j) 1#32 = BitVec.ofNat 32 (j + 1) := by decide
theorem slt_of_lt : ∀ j < 28, Scalar.cmpi .slt (BitVec.ofNat 32 j) 28#32 = 1#1 := by decide
theorem andi_one : ∀ b : BitVec 1, Scalar.andi 1#1 b = 1#1 → b = 1#1 := by decide
theorem not_slt : Scalar.cmpi .slt (BitVec.ofNat 32 28) 28#32 = 0#1 := by decide

/-! ## The search -/

/-- The first element of the chunks of a trip, as the kernel computes it. -/
def start (i : grid0.Coords) (k : Fin k0_t1_loop.trips) : BitVec 32 :=
  Scalar.muli (Scalar.addi (Scalar.muli (BitVec.ofNat 32 (i 0).val) 8#32) (Scalar.addi 0#32 (Scalar.muli (Scf.iv 0#32 1#32 k) 1#32))) 131072#32

section While
variable (c : Dev nD) (i : grid0.Coords) (k : Fin k0_t1_loop.trips) (arg1 : Memref sig .tc .smem S30 .i32) (harg1 : arg1.IsWhole) (f1 : Bf (F := F) c arg1)

/-- The tensors' offsets, word by word. -/
def word (q : ℕ) : BitVec 32 := if h : q < 30 then arg1.view.read (Elt F) f1 (fun a => ⟨q, by match a with | ⟨0, _⟩ => exact h⟩) else 0#32

/-- Reading one word of the offsets. -/
theorem word_read (off : Fin 1 → ℕ) (inb : ∀ a, off a + S1.size a ≤ S30.size a) (x : S1.Idx) (o : ℕ) (ho : off 0 = o) :
    View.readAt (Elt F) arg1.view (Rect.unit (s := S30) off S1.size inb).toLoadRect f1 x = word c arg1 f1 o := by
  subst ho
  have h := inb 0
  have h' : off 0 < 30 := by have e1 : S1.size 0 = 1 := rfl; have e2 : S30.size 0 = 30 := rfl; omega
  unfold word
  rw [dif_pos h', View.readAt_apply]
  refine congrArg (arg1.view.read (Elt F) f1) (funext fun a => Fin.ext ?_)
  rw [LoadRect.idx_apply]
  match a with
  | ⟨0, _⟩ =>
    show off 0 + 1 * (x 0).val = off 0
    have : (x 0).val < 1 := (x 0).isLt
    omega

/-- What the search finds: the first tensor from `j` on that does not end by the chunks' start, or the last one. -/
def Found (w : ℕ → BitVec 32) (s : BitVec 32) (j j' : ℕ) : Prop :=
  j ≤ j' ∧ j' < 29 ∧ (∀ q, j ≤ q → q < j' → Scalar.cmpi .sle (w (q + 1)) s = 1#1)

/-- The search's specification: holding the offsets it returns what `Found` says, and the offsets as they were. -/
def spec (j : ℕ) : sWPT 𝕄 (BitVec 32) := do
  sWPT.consume (pt c arg1 f1)
  let r ← sWPT.arbitrary
  sWPT.assume (∃ j', Found (word c arg1 f1) (start i k) j j' ∧ r = BitVec.ofNat 32 j')
  sWPT.produce (pt c arg1 f1)
  pure r

theorem spec_apply (j : ℕ) (K : BitVec 32 → sProp 𝕄) :
    spec c i k arg1 f1 j K = iprop(pt c arg1 f1 ∗ ∀ r : BitVec 32, ⌜∃ j', Found (word c arg1 f1) (start i k) j j' ∧ r = BitVec.ofNat 32 j'⌝ -∗ (pt c arg1 f1 -∗ K r)) := rfl

theorem off1_eq : ∀ j < 29, k0_off1 (BitVec.ofNat 32 j) 0 = j + 1 := by decide +kernel

/-- The search meets it from any counter below 29, by induction on the tensors left. -/
theorem spec_le : ∀ n j, j + n = 28 → ∀ K, spec c i k arg1 f1 j K
    ⊢ wp frame (wpE (defs₀ (F := F)) 𝒱₀ (c : Thread nD τ) (some n)) Set.univ (defs₀ (F := F) .tc 1 ⟨i, k, arg1, harg1, BitVec.ofNat 32 j⟩) K := by
  intro n
  induction n with
  | zero =>
    intro j hj K
    obtain rfl : j = 28 := by omega
    rw [spec_apply]
    show _ ⊢ wp frame (wpE (defs₀ (F := F)) 𝒱₀ (c : Thread nD τ) (some 0)) Set.univ (cc0_while1 i k arg1 harg1 (BitVec.ofNat 32 28)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some 0) Set.univ (chk1_of 28 (by decide)))
    sl_step
    rw [if_neg (by rw [not_slt]; generalize Scalar.cmpi .sle _ _ = b; revert b; decide)]
    rw [wp_ret]; imodintro
    iapply Hk
    · ipureintro; exact ⟨28, ⟨le_refl _, by decide, fun q h h' => absurd h (by omega)⟩, rfl⟩
    · iexact H
  | succ n ih =>
    intro j hj K
    rw [spec_apply]
    show _ ⊢ wp frame (wpE (defs₀ (F := F)) 𝒱₀ (c : Thread nD τ) (some (n + 1))) Set.univ (cc0_while1 i k arg1 harg1 (BitVec.ofNat 32 j)) K
    simp only [cc0_while1_eq_skeleton]; unfold cc0_while1_skel
    simp only [smemLoad, smemLoadElt, Prog.lift, Prog.bind_op, Prog.bind_ret, Prog.pure_eq_ret]
    iintro ⟨H, Hk⟩
    iapply (wp_assume 𝒱₀ (c : Thread nD τ) (some (n + 1)) Set.univ (chk1_of j (by omega)))
    sl_step
    split
    · next hc =>
      rw [slt_of_lt j (by omega)] at hc
      rw [addi_succ j (by omega)]
      iapply (wp_call_spec 𝒱₀ (c : Thread nD τ) (some (n + 1)) Set.univ (spec c i k arg1 f1 (j + 1)) n
        (fun u hu => by cases hu; exact Nat.lt_succ_self n) (ih (j + 1) (by omega)))
      rw [spec_apply]
      isplitl [H]; · iexact H
      iintro %r %hr H
      rw [wp_ret]; imodintro
      iapply Hk
      · ipureintro
        obtain ⟨j', hF, e⟩ := hr
        refine ⟨j', ⟨by have := hF.1; omega, hF.2.1, fun q h h' => ?_⟩, e⟩
        rcases Nat.eq_or_lt_of_le h with rfl | h
        · have e := word_read c arg1 f1 (k0_off1 (BitVec.ofNat 32 j)) (chk1_of j (by omega)) (Shape.Idx.first (numel1_S1.symm ▸ Nat.one_pos)) (j + 1) (off1_eq j (by omega))
          rw [← e]
          exact andi_one _ hc
        · exact hF.2.2 q h h'
      · iexact H
    · rw [wp_ret]; imodintro
      iapply Hk
      · ipureintro; exact ⟨j, ⟨le_refl _, by omega, fun q h h' => absurd h (by omega)⟩, rfl⟩
      · iexact H

end While

/-! ## The accumulator, row by row -/

/-- Contents of the accumulator: a row of 8 by 128 partial sums for each tensor. -/
abbrev Acc : Type := S32x8x128.Idx → F .f32

def rowOf (A : Acc (F := F)) (r : ℕ) : Vec F S1x8x128 .f32 := fun y => A (ValueIdx.ix3 (⟨r % 32, Nat.mod_lt _ (by decide)⟩ : Fin 32) (y 1 : Fin 8) (y 2 : Fin 128))
def put (A : Acc (F := F)) (r : ℕ) (P : Vec F S1x8x128 .f32) : Acc (F := F) := fun y => if (y 0).val = r then P (ValueIdx.ix3 (0 : Fin 1) (y 1 : Fin 8) (y 2 : Fin 128)) else A y

section Rows
variable (arg7 : Memref sig .tc .vmem S32x8x128 .f32) (f7 : arg7.view.ty.Contents (Elt F))

/-- Loading a row reads it. -/
theorem row_read (off : Fin 3 → ℕ) (inb : ∀ a, off a + S1x8x128.size a ≤ S32x8x128.size a) (r : ℕ) (ho : off = ![r, 0, 0]) :
    View.readAt (Elt F) arg7.view (Rect.unit (s := S32x8x128) off S1x8x128.size inb).toLoadRect f7 = rowOf (arg7.view.read (Elt F) f7) r := by
  subst ho
  have h : r + 1 ≤ 32 := inb 0
  funext y
  unfold rowOf
  rw [View.readAt_apply]
  refine congrArg (arg7.view.read (Elt F) f7) (funext fun a => Fin.ext ?_)
  rw [LoadRect.idx_apply]
  match a with
  | ⟨0, _⟩ =>
    show r + 1 * (y 0).val = r % 32
    have : (y 0).val < 1 := (y 0).isLt
    omega
  | ⟨1, _⟩ => show 0 + 1 * (y 1).val = (y 1).val; omega
  | ⟨2, _⟩ => show 0 + 1 * (y 2).val = (y 2).val; omega

/-- Storing a row replaces it. -/
theorem row_store (off : Fin 3 → ℕ) (inb : ∀ a, off a + S1x8x128.size a ≤ S32x8x128.size a) (r : ℕ) (ho : off = ![r, 0, 0]) (P : Vec F S1x8x128 .f32) :
    arg7.view.read (Elt F) (arg7.view.writes (Elt F) f7 [⟨Rect.unit (s := S32x8x128) off S1x8x128.size inb, P⟩]) = put (arg7.view.read (Elt F) f7) r P := by
  subst ho
  have h : r + 1 ≤ 32 := inb 0
  funext y
  unfold put
  have hidx : ∀ x : S1x8x128.Idx, ((Rect.unit (s := S32x8x128) ![r, 0, 0] S1x8x128.size inb).emb x 0).val = r ∧ ((Rect.unit (s := S32x8x128) ![r, 0, 0] S1x8x128.size inb).emb x 1).val = (x 1).val ∧ ((Rect.unit (s := S32x8x128) ![r, 0, 0] S1x8x128.size inb).emb x 2).val = (x 2).val := by
    intro x
    have h0 : (x 0).val < 1 := (x 0).isLt
    refine ⟨?_, ?_, ?_⟩
    · show r + 1 * (x 0).val = r; omega
    · show 0 + 1 * (x 1).val = (x 1).val; omega
    · show 0 + 1 * (x 2).val = (x 2).val; omega
  by_cases hy : (y 0).val = r
  · rw [if_pos hy]
    have e : (Rect.unit (s := S32x8x128) ![r, 0, 0] S1x8x128.size inb).emb (ValueIdx.ix3 (0 : Fin 1) (y 1 : Fin 8) (y 2 : Fin 128)) = y := by
      obtain ⟨h0, h1, h2⟩ := hidx (ValueIdx.ix3 (0 : Fin 1) (y 1 : Fin 8) (y 2 : Fin 128))
      funext a
      refine Fin.ext ?_
      match a with
      | ⟨0, _⟩ => exact h0.trans hy.symm
      | ⟨1, _⟩ => exact h1
      | ⟨2, _⟩ => exact h2
    refine View.read_writes_apply_of_pieces arg7.view f7 (fun y => P (ValueIdx.ix3 (0 : Fin 1) (y 1 : Fin 8) (y 2 : Fin 128))) _ (fun p hp x => ?_) y ⟨_, List.mem_singleton.2 rfl, ?_⟩
    · obtain rfl := List.mem_singleton.1 hp
      refine congrArg P (funext fun a => Fin.ext ?_)
      obtain ⟨h0, h1, h2⟩ := hidx x
      match a with
      | ⟨0, _⟩ => show (x 0).val = 0; have : (x 0).val < 1 := (x 0).isLt; omega
      | ⟨1, _⟩ => exact h1.symm
      | ⟨2, _⟩ => exact h2.symm
    · have h := LoadRect.idx_mem (Rect.unit (s := S32x8x128) ![r, 0, 0] S1x8x128.size inb).toLoadRect (ValueIdx.ix3 (0 : Fin 1) (y 1 : Fin 8) (y 2 : Fin 128))
      have e' : (Rect.unit (s := S32x8x128) ![r, 0, 0] S1x8x128.size inb).toLoadRect.idx (ValueIdx.ix3 (0 : Fin 1) (y 1 : Fin 8) (y 2 : Fin 128)) = y := e
      rwa [e'] at h
  · rw [if_neg hy]
    refine View.read_writes_apply_of_forall_not_mem arg7.view f7 y _ (fun p hp hm => ?_)
    obtain rfl := List.mem_singleton.1 hp
    have hm' := (Rect.mem_set_unit (inb := inb)).1 hm 0
    have e1 : (![r, 0, 0] : Fin 3 → ℕ) 0 = r := rfl
    have e2 : S1x8x128.size 0 = 1 := rfl
    rw [e1, e2] at hm'
    omega

end Rows

section Body

variable (c : Dev nD) (i : grid0.Coords) (arg1 : Memref sig .tc .smem S30 .i32) (harg1 : arg1.IsWhole) (arg2 : Memref sig .tc .smem S1x1 .f32) (harg2 : arg2.IsWhole) (arg3 : Memref sig .tc .vmem S8192x128 .bf16) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S32x8x128 .f32) (harg7 : arg7.IsWhole) (arg8 : Memref sig .tc .smem S1 .i32) (harg8 : arg8.IsWhole)
  (f1 : Bf (F := F) c arg1)

/-- What a chunk group that may touch several tensors does to tensor `r`'s row, and to the `n` rows from row `j` on. -/
def partA (k : Fin k0_t1_loop.trips) (v20 : Vec F S1024x128 .bf16) (w : ℕ → BitVec 32) (A : Acc (F := F)) (r : ℕ) : Acc (F := F) :=
  if k0_cond4 i k (w r) (w (r + 1)) = 1#1 then put A r (k0_pay5 i k v20 (w r) (w (r + 1)) (rowOf A r)) else A
def loopA (k : Fin k0_t1_loop.trips) (v20 : Vec F S1024x128 .bf16) (w : ℕ → BitVec 32) (A : Acc (F := F)) (j : ℕ) : ℕ → Acc (F := F)
  | 0 => A
  | n + 1 => partA i k v20 w (loopA k v20 w A j n) (j + n)

theorem off6_eq : ∀ j < 29, ∀ t2 : Fin (k0_t2_loop (BitVec.ofNat 32 j)).trips, k0_off6 (BitVec.ofNat 32 j) t2 0 = j + t2.val := by decide +kernel
theorem off7_eq : ∀ j < 29, ∀ t2 : Fin (k0_t2_loop (BitVec.ofNat 32 j)).trips, k0_off7 (BitVec.ofNat 32 j) t2 0 = j + t2.val + 1 := by decide +kernel
theorem off8_eq : ∀ j < 29, ∀ t2 : Fin (k0_t2_loop (BitVec.ofNat 32 j)).trips, k0_off8 (BitVec.ofNat 32 j) t2 = ![j + t2.val, 0, 0] := by decide +kernel
theorem off5_eq : ∀ j < 29, k0_off5 (BitVec.ofNat 32 j) = ![j, 0, 0] := by decide +kernel
theorem off3_eq : ∀ j < 29, k0_off3 (BitVec.ofNat 32 j) 0 = j := by decide +kernel
theorem off4_eq : ∀ j < 29, k0_off4 (BitVec.ofNat 32 j) 0 = j + 1 := by decide +kernel
theorem trips2_of : ∀ j < 29, (k0_t2_loop (BitVec.ofNat 32 j)).trips = 29 - j := by decide +kernel

set_option maxHeartbeats 0
set_option maxRecDepth 10000

/-- The rows' loop: its invariant before trip `n`. -/
def rowsInv (k : Fin k0_t1_loop.trips) (v20 : Vec F S1024x128 .bf16) (A : Acc (F := F)) (j n : ℕ) : sProp 𝕄 :=
  iprop(pt c arg1 f1 ∗ (∃ f : Bf (F := F) c arg7, ⌜arg7.view.read (Elt F) f = loopA i k v20 (word c arg1 f1) A j n⌝ ∗ pt c arg7 f))

theorem rows_step (k : Fin k0_t1_loop.trips) (v20 : Vec F S1024x128 .bf16) (A : Acc (F := F)) (j : ℕ) (hj : j < 29) (v32 v36 : BitVec 32) (h3 : k0_chk3 i k (BitVec.ofNat 32 j) v32 v36) (h4 : k0_cond3 i k v32 v36 = 1#1) (t2 : Fin (k0_t2_loop (BitVec.ofNat 32 j)).trips) :
    rowsInv c i arg1 arg7 f1 k v20 A j t2.val
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 k (BitVec.ofNat 32 j) v20 v32 v36 h3 h4 t2 ())
      (fun _ => rowsInv c i arg1 arg7 f1 k v20 A j (t2.val + 1)) := by
  unfold rowsInv
  iintro ⟨H1, ⟨%f7, %h7, H7⟩⟩
  have hchk := chk4_of i k j hj v32 v36 t2
  sl_unfold [k0_t2_body]
  sl_exec
  have e5 : rows_step.sl.r c i arg1 f1 k j v32 v36 h3 h4 t2 = word c arg1 f1 (j + t2.val) := word_read c arg1 f1 _ _ _ _ (off6_eq j hj t2)
  have e6 : rows_step.sl.r_1 c i arg1 f1 k j v32 v36 h3 h4 t2 = word c arg1 f1 (j + t2.val + 1) := word_read c arg1 f1 _ _ _ _ (off7_eq j hj t2)
  sl_step
  isplitl [H1]; · iexact H1
  iexists _
  isplitr [H7]; rotate_left; · iexact H7
  ipureintro
  show _ = partA i k v20 (word c arg1 f1) (loopA i k v20 (word c arg1 f1) A j t2.val) (j + t2.val)
  unfold partA
  by_cases hc : k0_cond4 i k (rows_step.sl.r c i arg1 f1 k j v32 v36 h3 h4 t2) (rows_step.sl.r_1 c i arg1 f1 k j v32 v36 h3 h4 t2) = 1#1
  · rw [dif_pos hc, row_store arg7 f7 _ _ _ (off8_eq j hj t2), h7]
    have e7 : rows_step.sl.v104 c i arg1 arg7 f1 k j v32 v36 h3 h4 t2 f7 hchk hc = rowOf (arg7.view.read (Elt F) f7) (j + t2.val) := row_read arg7 f7 _ _ _ (off8_eq j hj t2)
    rw [e5, e6] at hc
    rw [if_pos hc, e5, e6, e7, h7]
  · rw [dif_neg hc, h7]
    rw [e5, e6] at hc
    rw [if_neg hc]

/-- What a chunk group does: the search's new tensor, and the new accumulator. -/
def TripA (k : Fin k0_t1_loop.trips) (v20 : Vec F S1024x128 .bf16) (w : ℕ → BitVec 32) (j : ℕ) (A : Acc (F := F)) (j' : ℕ) (A' : Acc (F := F)) : Prop :=
  Found w (start i k) j j' ∧ A' = if k0_cond2 i k (w j') (w (j' + 1)) = 1#1 then put A j' (k0_pay3 v20 (rowOf A j')) else loopA i k v20 w A j' (29 - j')

/-- The chunk group's rows of the block. -/
def rowsK (f3 : Bf (F := F) c arg3) (k : Fin k0_t1_loop.trips) : Vec F S1024x128 .bf16 :=
  View.readAt (Elt F) arg3.view (Rect.unit (s := S8192x128) (k0_off2 k) S1024x128.size (k0_off2_inb k)).toLoadRect f3

/-- The scratch word, read. -/
def At (f8 : Bf (F := F) c arg8) (j : ℕ) : Prop := ∀ x, arg8.view.read (Elt F) f8 x = BitVec.ofNat 32 j

/-- The two scratch arrays between trips: the word is the tensor found last, the accumulator as the state says. -/
def scratch (P : ℕ → Acc (F := F) → Prop) : sProp 𝕄 :=
  iprop(∃ (f7 : Bf (F := F) c arg7) (f8 : Bf (F := F) c arg8) (j : ℕ), ⌜j < 29 ∧ At c arg8 f8 j ∧ P j (arg7.view.read (Elt F) f7)⌝ ∗ pt c arg7 f7 ∗ pt c arg8 f8)

theorem at_read (f8 : Bf (F := F) c arg8) (j : ℕ) (h : At c arg8 f8 j) (inb) (x : S1.Idx) :
    View.readAt (Elt F) arg8.view (Rect.unit (s := S1) ![0] S1.size inb).toLoadRect f8 x = BitVec.ofNat 32 j := by
  rw [View.readAt_apply]; exact h _
theorem at_store (f8 : Bf (F := F) c arg8) (j : ℕ) (inb) :
    At c arg8 (arg8.view.writes (Elt F) f8 [⟨Rect.unit (s := S1) ![0] S1.size inb, fun _ => BitVec.ofNat 32 j⟩]) j := by
  intro x
  refine View.read_writes_apply_of_pieces arg8.view f8 (fun _ => BitVec.ofNat 32 j) _ (fun p hp y => ?_) x ⟨_, List.mem_singleton.2 rfl, ?_⟩
  · obtain rfl := List.mem_singleton.1 hp; rfl
  · refine (Rect.mem_set_unit (inb := inb)).2 fun a => ?_
    match a with
    | ⟨0, _⟩ => exact ⟨Nat.zero_le _, by show _ < 0 + 1; have : (x 0).val < 1 := (x 0).isLt; exact this⟩

theorem flip_one : ∀ b : BitVec 1, Scalar.cmpi .ne (Scalar.extui b : BitVec 32) 0#32 = 1#1 → Scalar.cmpi .ne (Scalar.extui (Scalar.xori b 1#1) : BitVec 32) 0#32 ≠ 1#1 := by decide
theorem flip_zero : ∀ b : BitVec 1, ¬ Scalar.cmpi .ne (Scalar.extui b : BitVec 32) 0#32 = 1#1 → Scalar.cmpi .ne (Scalar.extui (Scalar.xori b 1#1) : BitVec 32) 0#32 = 1#1 := by decide
theorem cond3_of (k : Fin k0_t1_loop.trips) (u v : BitVec 32) (h : k0_cond2 i k u v = 1#1) : k0_cond3 i k u v ≠ 1#1 := flip_one _ h
theorem cond3_of_not (k : Fin k0_t1_loop.trips) (u v : BitVec 32) (h : ¬ k0_cond2 i k u v = 1#1) : k0_cond3 i k u v = 1#1 := flip_zero _ h

theorem trip_step (f3 : Bf (F := F) c arg3) (k : Fin k0_t1_loop.trips) (P P' : ℕ → Acc (F := F) → Prop)
    (hP : ∀ j A j' A', j < 29 → P j A → TripA i k (rowsK c arg3 f3 k) (word c arg1 f1) j A j' A' → P' j' A') :
    iprop(pt c arg1 f1 ∗ pt c arg3 f3 ∗ scratch c arg7 arg8 P)
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 k ())
      (fun _ => iprop(pt c arg1 f1 ∗ pt c arg3 f3 ∗ scratch c arg7 arg8 P')) := by
  unfold scratch
  iintro ⟨H1, H3, ⟨%f7, %f8, %j, %h, H7, H8⟩⟩
  obtain ⟨hj, h8, hA⟩ := h
  sl_unfold [k0_t1_body]
  sl_exec
  have e : trip_step.sl.r c arg8 f8 = BitVec.ofNat 32 j := at_read c arg8 f8 j h8 _ _
  rw [e]
  iapply (wp_call_spec 𝒱₀ (c : Thread nD τ) none Set.univ (spec c i k arg1 f1 j) (28 - j)
    (fun u hu => nomatch hu) (spec_le c i k arg1 harg1 f1 (28 - j) j (by omega)))
  rw [spec_apply]
  isplitl [H1]; · iexact H1
  iintro %r %hr H1
  obtain ⟨j', hF, rfl⟩ := hr
  have hj' : j' < 29 := hF.2.1
  have hc2 := chk2_of j' hj'
  have hc3 := fun v32 v36 => chk3_of i k j' hj' v32 v36
  sl_exec
  have e2 : trip_step.sl.r_2 c arg1 f1 j' hc2 = word c arg1 f1 j' := word_read c arg1 f1 _ _ _ _ (off3_eq j' hj')
  have e3 : trip_step.sl.r_3 c arg1 f1 j' hc2 = word c arg1 f1 (j' + 1) := word_read c arg1 f1 _ _ _ _ (off4_eq j' hj')
  have e8 : At c arg8 (arg8.view.writes (Elt F) f8 (trip_step.sl.H8_1 j')) j' := at_store c arg8 f8 j' _
  by_cases hc : k0_cond2 i k (trip_step.sl.r_2 c arg1 f1 j' hc2) (trip_step.sl.r_3 c arg1 f1 j' hc2) = 1#1
  · rw [dif_neg (cond3_of i k _ _ hc)]
    rw [dif_pos hc]
    sl_step
    isplitl [H1]; · iexact H1
    isplitl [H3]; · iexact H3
    iexists _; iexists _; iexists j'
    isplitr [H7 H8]; rotate_left
    · isplitl [H7]; · iexact H7
      iexact H8
    ipureintro
    refine ⟨hj', e8, hP j _ j' _ hj hA ⟨hF, ?_⟩⟩
    rw [row_store arg7 f7 _ _ _ (off5_eq j' hj')]
    have e7 : trip_step.sl.v45 c i arg1 arg7 f1 k f7 j' hc2 hc3 hc = rowOf (arg7.view.read (Elt F) f7) j' := row_read arg7 f7 _ _ _ (off5_eq j' hj')
    rw [e7]
    rw [e2, e3] at hc
    rw [if_pos hc]
    rfl
  · have h4 := cond3_of_not i k _ _ hc
    rw [dif_pos h4, dif_neg hc]
    sl_for (fun n _ => rowsInv c i arg1 arg7 f1 k (rowsK c arg3 f3 k) (arg7.view.read (Elt F) f7) j' n) $$ [H1 H7]
    case region =>
      intro t2 _
      exact rows_step c i arg1 harg1 arg2 harg2 arg3 harg3 arg4 harg4 arg5 harg5 arg6 harg6 arg7 harg7 arg8 harg8 f1 k _ _ j' hj' _ _ _ h4 t2
    · unfold rowsInv
      isplitl [H1]; · iexact H1
      iexists f7
      isplitr [H7]; · ipureintro; rfl
      iexact H7
    iintro %u HI
    sl_for (fun _ _ => iprop(emp)) $$ []
    case region =>
      intro t3 _
      exact absurd (lt_of_lt_of_eq t3.isLt (trips3_of j' hj')) (Nat.not_lt_zero _)
    · iempintro
    iintro %u' _
    have tr2 : Scf.trips (k0_t2_loop (BitVec.ofNat 32 j')).lb (k0_t2_loop (BitVec.ofNat 32 j')).ub (k0_t2_loop (BitVec.ofNat 32 j')).st = 29 - j' := trips2_of j' hj'
    rw [tr2]
    unfold rowsInv
    icases HI with ⟨H1, ⟨%f7', %h7', H7⟩⟩
    sl_step
    isplitl [H1]; · iexact H1
    isplitl [H3]; · iexact H3
    iexists f7'; iexists _; iexists j'
    isplitr [H7 H8]; rotate_left
    · isplitl [H7]; · iexact H7
      iexact H8
    ipureintro
    refine ⟨hj', e8, hP j _ j' _ hj hA ⟨hF, ?_⟩⟩
    rw [e2, e3] at hc
    rw [if_neg hc, h7']

end Body

end Cert.Proof.NormIdeal

end
-- ==== Proof.NormIdealBody.lean ====
/-
  The norm kernel's body at one grid point, run from its first operation to its last.
-/
module

public import proofs.«01_k».proof.Proof.NormIdealRun

@[expose] public section

noncomputable section

namespace Cert.Proof.NormIdeal

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords) (arg1 : Memref sig .tc .smem S30 .i32) (harg1 : arg1.IsWhole) (arg2 : Memref sig .tc .smem S1x1 .f32) (harg2 : arg2.IsWhole) (arg3 : Memref sig .tc .vmem S8192x128 .bf16) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S32x8x128 .f32) (harg7 : arg7.IsWhole) (arg8 : Memref sig .tc .smem S1 .i32) (harg8 : arg8.IsWhole)
  (f1 : Bf (F := F) c arg1)

set_option maxHeartbeats 0
set_option maxRecDepth 10000

theorem first_of : ∀ n < 60, (Scalar.cmpi .ne (Scalar.extui (Scalar.cmpi .eq (BitVec.ofNat 32 n) 0#32) : BitVec 32) 0#32 = 1#1) ↔ n = 0 := by decide +kernel

/-- What the body leaves: the inputs as they were, the results and the accumulator at some contents, the scratch word below 29. -/
def left (f2 : Bf (F := F) c arg2) (f3 : Bf (F := F) c arg3) : sProp 𝕄 :=
  iprop(pt c arg1 f1 ∗ pt c arg2 f2 ∗ pt c arg3 f3
        ∗ (∃ f : Bf (F := F) c arg4, pt c arg4 f) ∗ (∃ f : Bf (F := F) c arg5, pt c arg5 f) ∗ (∃ f : Bf (F := F) c arg6, pt c arg6 f)
        ∗ scratch c arg7 arg8 (fun _ _ => True))

/-- The body: from any scratch contents at the first grid point, later from a scratch word below 29. -/
theorem body_run (f2 : Bf (F := F) c arg2) (f3 : Bf (F := F) c arg3) (f4 : Bf (F := F) c arg4) (f5 : Bf (F := F) c arg5) (f6 : Bf (F := F) c arg6)
    (f7 : Bf (F := F) c arg7) (f8 : Bf (F := F) c arg8) (h1 : (i 0).val ≠ 0 → ∃ j < 29, At c arg8 f8 j) :
    iprop(pt c arg1 f1 ∗ pt c arg2 f2 ∗ pt c arg3 f3 ∗ pt c arg4 f4 ∗ pt c arg5 f5 ∗ pt c arg6 f6 ∗ pt c arg7 f7 ∗ pt c arg8 f8)
    ⊢ wp frame (wpE (defs₀ (F := F)) 𝒱₀ (c : Thread nD τ) none) Set.univ (cc0_norm (F := F) i arg1 harg1 arg2 harg2 arg3 harg3 arg4 harg4 arg5 harg5 arg6 harg6 arg7 harg7 arg8 harg8)
      (fun _ => left c arg1 arg2 arg3 arg4 arg5 arg6 arg7 arg8 f1 f2 f3) := by
  unfold left
  simp only [cc0_norm_eq_skeleton]
  iintro ⟨H1, H2, H3, H4, H5, H6, H7, H8⟩
  have hfirst := first_of (i 0).val (i 0).isLt
  sl_unfold [cc0_norm_skel]
  by_cases hi : (i 0).val = 0
  · rw [dif_pos (hfirst.2 hi)]
    sl_exec
    sl_for (fun n _ => iprop(pt c arg1 f1 ∗ pt c arg3 f3 ∗ scratch c arg7 arg8 (fun _ _ => True))) $$ [H1 H3 H7 H8]
    case region =>
      intro k _
      exact trip_step c i arg1 harg1 arg2 harg2 arg3 harg3 arg4 harg4 arg5 harg5 arg6 harg6 arg7 harg7 arg8 harg8 f1 f3 k (fun _ _ => True) (fun _ _ => True) (fun _ _ _ _ _ _ _ => trivial)
    · isplitl [H1]; · iexact H1
      isplitl [H3]; · iexact H3
      unfold scratch
      iexists _; iexists _; iexists 0
      isplitr [H7 H8]; rotate_left
      · isplitl [H7]; · iexact H7
        iexact H8
      ipureintro
      exact ⟨by decide, at_store c arg8 _ 0 _, trivial⟩
    iintro %u ⟨H1, H3, HS⟩
    unfold scratch
    icases HS with ⟨%g7, %g8, %j', %h', H7, H8⟩
    sl_exec
    sl_step
    isplitl [H1]; · iexact H1
    isplitl [H2]; · iexact H2
    isplitl [H3]; · iexact H3
    isplitl [H4]; · iexists _; iexact H4
    isplitl [H5]; · iexists _; iexact H5
    isplitl [H6]; · iexists _; iexact H6
    iexists g7; iexists g8; iexists j'
    isplitr [H7 H8]
    · ipureintro; exact h'
    isplitl [H7]; · iexact H7
    iexact H8
  · rw [dif_neg (fun h => hi (hfirst.1 h))]
    obtain ⟨j, hj, h8⟩ := h1 hi
    sl_for (fun n _ => iprop(pt c arg1 f1 ∗ pt c arg3 f3 ∗ scratch c arg7 arg8 (fun _ _ => True))) $$ [H1 H3 H7 H8]
    case region =>
      intro k _
      exact trip_step c i arg1 harg1 arg2 harg2 arg3 harg3 arg4 harg4 arg5 harg5 arg6 harg6 arg7 harg7 arg8 harg8 f1 f3 k (fun _ _ => True) (fun _ _ => True) (fun _ _ _ _ _ _ _ => trivial)
    · isplitl [H1]; · iexact H1
      isplitl [H3]; · iexact H3
      unfold scratch
      iexists _; iexists _; iexists j
      isplitr [H7 H8]; rotate_left
      · isplitl [H7]; · iexact H7
        iexact H8
      ipureintro
      exact ⟨hj, h8, trivial⟩
    iintro %u ⟨H1, H3, HS⟩
    unfold scratch
    icases HS with ⟨%g7, %g8, %j', %h', H7, H8⟩
    sl_exec
    sl_step
    isplitl [H1]; · iexact H1
    isplitl [H2]; · iexact H2
    isplitl [H3]; · iexact H3
    isplitl [H4]; · iexists _; iexact H4
    isplitl [H5]; · iexists _; iexact H5
    isplitl [H6]; · iexists _; iexact H6
    iexists g7; iexists g8; iexists j'
    isplitr [H7 H8]
    · ipureintro; exact h'
    isplitl [H7]; · iexact H7
    iexact H8

end Body

end Cert.Proof.NormIdeal

end
-- ==== Proof.NormIdealFrame.lean ====
/-
  The norm kernel's frame, from the body's run (NormIdealBody): the pipeline's proof data, with what the result windows hold
  left unsaid and the scratch word kept below 29 from the first grid point on, the body obligation, and the launch.
-/
module

public import proofs.«01_k».proof.Proof.NormIdealBody
public import proofs.«01_k».proof.Proof.Gen.NormIdeal.Launch
public import Idealize.ShloMosaic.Lib.Pipeline.Frame
public import Idealize.ShloMosaic.Lib.Pipeline.FrameBody

@[expose] public section

noncomputable section

namespace Cert.Proof.NormIdeal

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory as the region finds it: as launched. -/
abbrev V (c : Dev nD) (b : Ref sig .tc) : Buf (Elt F) ((c.tc : Thread nD τ).loc b) := m ((c.tc : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => main_chain c)

/-- A window's block at a grid point, read through its array as launched. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window's staging buffer holds its block at every point, fetched there or not. -/
theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A scratch buffer of the kernel, held through its whole memref. -/
theorem pt_whole (c : Dev nD) (b : Ref sig .tc) (f : Buf (Elt F) ((c : Thread nD τ).loc b)) :
    (pt c (Memref.whole b) f : sProp 𝕄) = ((c : Thread nD τ).loc b ↦{fullShare} f) := by
  unfold pt; simp only [Memref.view_whole, View.set_whole]

/-- What holds between grid points: the scratch arrays, the word below 29 after the first one, and the rest of the core. -/
def Φ (c : Dev nD) (n : ℕ) : sProp 𝕄 :=
  iprop(((∃ f7 : Bf (F := F) c (Memref.whole cc0_scratch0), pt c (Memref.whole cc0_scratch0) f7)
      ∗ (∃ f8 : Bf (F := F) c (Memref.whole cc0_scratch1), ⌜n ≠ 0 → ∃ j < 29, At c (Memref.whole cc0_scratch1) f8 j⌝ ∗ pt c (Memref.whole cc0_scratch1) f8))
    ∗ ∃ r, prngReg c r)

set_option maxHeartbeats 0 in
theorem Φ_in (c : Dev nD) : (Pipeline.ΦA spec0 c : sProp 𝕄) ⊢ Φ c 0 := by
  unfold Pipeline.ΦA Φ
  rw [scopedRest0_eq]
  simp only [← pt_whole]
  iintro ⟨⟨⟨%s0, S0⟩, ⟨%s1, S1⟩⟩, Hr⟩
  isplitr [Hr]
  · isplitl [S0]; · iexists s0; iexact S0
    iexists s1
    isplitr [S1]
    · ipureintro; exact fun h => absurd rfl h
    iexact S1
  iexact Hr

set_option maxHeartbeats 0 in
theorem Φ_out (c : Dev nD) (n : ℕ) : Φ c n ⊢ (Pipeline.ΦA spec0 c : sProp 𝕄) := by
  unfold Pipeline.ΦA Φ
  rw [scopedRest0_eq]
  simp only [← pt_whole]
  iintro ⟨⟨⟨%s0, S0⟩, ⟨%s1, %h, S1⟩⟩, Hr⟩
  isplitr [Hr]
  · isplitl [S0]; · iexists s0; iexact S0
    iexists s1; iexact S1
  iexact Hr

/-- The windows whose contents are left unsaid: the three results. -/
def fgt (w : Fin (cfg0 (F := F)).W) : Bool := match w with
  | ⟨0, _⟩ => false | ⟨1, _⟩ => false | ⟨2, _⟩ => false | ⟨3, _⟩ => true | ⟨4, _⟩ => true | ⟨5, _⟩ => true

/-- The proof data on core `c`: each array at its contents when the region is entered, each input block left in place. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t
  Φ n := Φ c n.val
  q _ := fullShare
  owed _ := 0

theorem A_eq (c : Dev nD) (w : Fin (cfg0 (F := F)).W) : (dats m 0 c).A w = V m c (Pipeline.arrRef spec0 w) := by
  dsimp only [dats]

/-- The kernel the pipeline calls at point `t` is the printed body on the point's staging buffers. -/
theorem defs₀_row (t : Fin (cfg0 (F := F)).N) : defs₀ (F := F) .tc (cfg0 (F := F)).body ((cfg0 (F := F)).bodyArgs t ((cfg0 (F := F)).slots t)) = Gen.bodyAt0 t := by
  unfold defs₀; rw [Defs.onTc_tc]

theorem coord : ∀ t : Fin grid0.N, (grid0.coords t 0).val = t.val := by decide +kernel

set_option maxHeartbeats 0 in
theorem body_obligation (c : Dev nD) : BodyObligationLoose (dats m 0 c) (defs₀ (F := F)) 𝒱₀ () Set.univ fgt := fun t => by
  rw [bigSep_W0, bigSep_W0, defs₀_row]
  dsimp only [fgt]
  rw [show (dats m 0 c).Φ t.castSucc = Φ c t.val from rfl, show (dats m 0 c).Φ t.succ = Φ c (t.val + 1) from rfl]
  unfold Φ
  unfold owns Dat.owesAt Pipeline.owesWithin
  iintro ⟨⟨⟨⟨%s0, S0⟩, ⟨%s1, %hs1, S1⟩⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  iapply (wp_wand_r Idealize.ShloMosaic.frame (wpE (defs₀ (F := F)) 𝒱₀ (c : Thread nD τ) none) Set.univ)
  isplitl [H0 H1 H2 H3 H4 H5 S0 S1]
  · iapply (body_run c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (Memref.whole cc0_scratch0) (Memref.isWhole_whole _) (Memref.whole cc0_scratch1) (Memref.isWhole_whole _) f0 f1 f2 f3 f4 f5 s0 s1 (fun h => hs1 (fun h' => h ((coord t).trans h'))))
    isplitl [H0]; · iexact H0
    isplitl [H1]; · iexact H1
    isplitl [H2]; · iexact H2
    isplitl [H3]; · iexact H3
    isplitl [H4]; · iexact H4
    isplitl [H5]; · iexact H5
    isplitl [S0]; · iexact S0
    iexact S1
  unfold left scratch
  iintro %_ ⟨H0, H1, H2, ⟨%g3, H3⟩, ⟨%g4, H4⟩, ⟨%g5, H5⟩, ⟨%u0, %u1, %j, %hu, S0, S1⟩⟩
  isplitl [S0 S1 Hr]
  · isplitr [Hr]
    · isplitl [S0]; · iexists u0; iexact S0
      iexists u1
      isplitr [S1]
      · ipureintro; exact fun _ => ⟨j, hu.1, hu.2.1⟩
      iexact S1
    iexact Hr
  isplitl [HO]
  · iexists W; isplitr
    · ipureintro; exact hW
    iexact HO
  isplitl [H0]
  · iexists f0; isplitr
    · ipureintro; exact hf0.trans (before0_of m (dats m 0 c) (A_eq m c 0) (fun _ => rfl) t d0)
    iexact H0
  isplitl [H1]
  · iexists f1; isplitr
    · ipureintro; exact hf1.trans (before1_of m (dats m 0 c) (A_eq m c 1) (fun _ => rfl) t d1)
    iexact H1
  isplitl [H2]
  · iexists f2; isplitr
    · ipureintro; exact hf2.trans (before2_of m (dats m 0 c) (A_eq m c 2) (fun _ => rfl) t d2)
    iexact H2
  isplitl [H3]
  · iexists _, g3; isplitr
    · ipureintro; rfl
    iexact H3
  isplitl [H4]
  · iexists _, g4; isplitr
    · ipureintro; rfl
    iexact H4
  iexists _, g5; isplitr
  · ipureintro; rfl
  iexact H5

/-- THE FRAME: the run terminates without a fault, the argument arrays end as they began and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_frame_track_forget cfgs (dats m) 0 Gen.launch0 defs₀ 𝒱₀ fgt m ρ main (body_obligation m)
    (fun c => (dats m 0 c).share_full fun _ => rfl) (fun _ _ => rfl) (V m) (hmain m) (A_eq m) (fun c => Φ_in c) (fun c => Φ_out c _) _ ?_
  intro r h
  refine ⟨fun c => ⟨?_, ?_, ?_⟩, h.2⟩
  · exact (RDat.FramePost.arr_in h.1 c 0 rfl).trans (A_eq m c 0)
  · exact (RDat.FramePost.arr_in h.1 c 1 rfl).trans (A_eq m c 1)
  · exact (RDat.FramePost.arr_in h.1 c 2 rfl).trans (A_eq m c 2)

end Cert.Proof.NormIdeal

end
-- ==== Proof.lean ====
/-
  The proof of the claims of Defs.lean: the frames of the programs, the idealizations' rewrites, and that the idealized
  quantiser kernel and the reference compute the same four arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Norm
public import proofs.«01_k».proof.Proof.Gen.NormIdeal
public import proofs.«01_k».proof.Proof.KernelFrame
public import proofs.«01_k».proof.Proof.IdealLaunch
public import proofs.«01_k».proof.Proof.Agree
public import proofs.«01_k».proof.Proof.NormFrame
public import proofs.«01_k».proof.Proof.NormIdealFrame
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel as printed terminates, leaves its arguments as they were and every semaphore counter at zero. -/
theorem frame_kernel : Cert.quiescent_Kernel := fun m ρ _ => Cert.Proof.Kernel.frame m ρ

/-- The same of the idealized kernel. -/
theorem frame_kernelIdeal : Cert.quiescent_KernelIdeal := fun m ρ _ =>
  (θ_run Cert.KernelIdeal.defs _ _).mono (fun r h => ⟨fun c => (h.1 c).2.2.2.2, h.2⟩) (Cert.Proof.KernelIdeal.run m ρ)

/-- The same of the reference, which declares no semaphore. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- Each rewrite of the idealization is sound. -/
theorem preserves : Cert.preserves_Kernel_KernelIdeal :=
  ⟨IdealRules.bf16_pair.statement _ _, IdealRules.named_const.statement Cert.KernelIdeal.κ "inv_max" .f32 0x7F61B1E6#32 ⊤ rfl⟩

/-- From memories that agree on the arguments the idealized kernel and the reference end with the same new error, codes,
scales and zero points: the quantisation of the kernel's element sequence. -/
theorem algebraic : Cert.algebraic_KernelIdeal_ReferenceIdeal := by
  intro m g m' g' _ h
  refine ⟨fun c => KernelIdeal.errArr (KernelIdeal.X m c), fun c => KernelIdeal.codeArr (KernelIdeal.X m c),
    fun c => KernelIdeal.scaleArr (KernelIdeal.X m c), fun c => KernelIdeal.zpArr (KernelIdeal.X m c), ?_, ?_⟩
  · exact (θ_run Cert.KernelIdeal.defs _ _).mono (fun r h => h.1) (KernelIdeal.run m g)
  · refine Agree.ref_run m' g' (fun c => KernelIdeal.X m c) fun c b i => ?_
    obtain ⟨h0, h1, h2⟩ := h c
    unfold Ref.blk KernelIdeal.X
    rw [h0, h1, h2]
    exact Agree.blocks_flat _ _ _ b i

/-- The norm kernel as printed terminates, leaves its arguments as they were and every semaphore counter at zero, whatever
the offsets are. -/
theorem frame_norm : Cert.quiescent_Norm := fun m ρ _ => Cert.Proof.Norm.frame m ρ

/-- The same of the idealized norm kernel. -/
theorem frame_normIdeal : Cert.quiescent_NormIdeal := fun m ρ _ => Cert.Proof.NormIdeal.frame m ρ

/-- The norm kernel's one rewrite is sound. -/
theorem preserves_norm : Cert.preserves_Norm_NormIdeal := IdealRules.bf16_pair.statement _ _

/-- Everything claimed. -/
theorem claim : Cert.Claim := ⟨Cert.Kernel.Gen.facts, Cert.KernelIdeal.Gen.facts, Cert.ReferenceIdeal.Gen.facts,
  Cert.Norm.Gen.facts, Cert.NormIdeal.Gen.facts,
  frame_kernel, frame_kernelIdeal, frame_referenceIdeal, frame_norm, frame_normIdeal, preserves, algebraic, preserves_norm⟩

end Cert.Proof

end
